-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S1x4096 : Shape := ⟨2, ![1, 4096]⟩
abbrev S2x128x4096 : Shape := ⟨3, ![2, 128, 4096]⟩
abbrev S1024x4096 : Shape := ⟨2, ![1024, 4096]⟩
abbrev S2 : Shape := ⟨1, ![2]⟩
abbrev S4 : Shape := ⟨1, ![4]⟩
abbrev S8 : Shape := ⟨1, ![8]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .bf16⟩
  | .local _ .vmem, ⟨0, _⟩ => ⟨S1x4096, .f32⟩
  | .local _ .vmem, ⟨1, _⟩ => ⟨S2x128x4096, .f32⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S1024x4096, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v26 : BitVec 32 := Scalar.muli v9 c4_i32_15
  let v27 : BitVec 32 := Scalar.addi c0_i32 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v34 : BitVec 32 := Scalar.muli v10 c2_i32_21
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v36 : BitVec 32 := Scalar.muli v8 c1_i32_22
  let v37 : BitVec 32 := Scalar.addi v35 v36
  v37.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v38 : BitVec 32 := Scalar.muli v2 c4_i32_24
  let v39 : BitVec 32 := Scalar.addi c0_i32_25 v38
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v40 : BitVec 32 := Scalar.muli v5 c2_i32_26
  let v41 : BitVec 32 := Scalar.addi v39 v40
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v42 : BitVec 32 := Scalar.muli v11 c1_i32_27
  let v43 : BitVec 32 := Scalar.addi v41 v42
  v43.toNat
def k0_off1 (d0 : Dev nD) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v24 : BitVec 32 := Scalar.muli v13 c1024_i32
  let c0_i32_32 : BitVec 32 := 0#32
  ![v24.toNat, 0]
def k0_off2 (d0 : Dev nD) (c128_i32 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32 : BitVec 32 := 1024#32
  let v24 : BitVec 32 := Scalar.muli v13 c1024_i32
  let v49 : BitVec 32 := Scalar.addi v24 c128_i32
  let c0_i32_37 : BitVec 32 := 0#32
  ![v49.toNat, 0]
def k0_dev4 (d0 : Dev nD) : Nat :=
  let c0_i32_50 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_49 : BitVec 32 := 4#32
  let v66 : BitVec 32 := Scalar.muli v9 c4_i32_49
  let v67 : BitVec 32 := Scalar.addi c0_i32_50 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v68 : BitVec 32 := Scalar.muli v5 c2_i32_51
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v70 : BitVec 32 := Scalar.muli v8 c1_i32_52
  let v71 : BitVec 32 := Scalar.addi v69 v70
  v71.toNat
def k0_dev5 (d0 : Dev nD) : Nat :=
  let c0_i32_73 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_72 : BitVec 32 := 4#32
  let v95 : BitVec 32 := Scalar.muli v9 c4_i32_72
  let v96 : BitVec 32 := Scalar.addi c0_i32_73 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v97 : BitVec 32 := Scalar.muli v5 c2_i32_74
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v99 : BitVec 32 := Scalar.muli v8 c1_i32_75
  let v100 : BitVec 32 := Scalar.addi v98 v99
  v100.toNat
def k0_dev6 (d0 : Dev nD) : Nat :=
  let c0_i32_97 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_96 : BitVec 32 := 4#32
  let v124 : BitVec 32 := Scalar.muli v9 c4_i32_96
  let v125 : BitVec 32 := Scalar.addi c0_i32_97 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_98 : BitVec 32 := 2#32
  let v126 : BitVec 32 := Scalar.muli v5 c2_i32_98
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v128 : BitVec 32 := Scalar.muli v8 c1_i32_99
  let v129 : BitVec 32 := Scalar.addi v127 v128
  v129.toNat
def k0_dev7 (d0 : Dev nD) : Nat :=
  let c0_i32_121 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_120 : BitVec 32 := 4#32
  let v153 : BitVec 32 := Scalar.muli v9 c4_i32_120
  let v154 : BitVec 32 := Scalar.addi c0_i32_121 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_122 : BitVec 32 := 2#32
  let v155 : BitVec 32 := Scalar.muli v5 c2_i32_122
  let v156 : BitVec 32 := Scalar.addi v154 v155
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_123 : BitVec 32 := 1#32
  let v157 : BitVec 32 := Scalar.muli v8 c1_i32_123
  let v158 : BitVec 32 := Scalar.addi v156 v157
  v158.toNat
def k0_dev8 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v182 : BitVec 32 := Scalar.muli v9 c4_i32_144
  let v183 : BitVec 32 := Scalar.addi c0_i32_145 v182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v184 : BitVec 32 := Scalar.muli v5 c2_i32_146
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v186 : BitVec 32 := Scalar.muli v8 c1_i32_147
  let v187 : BitVec 32 := Scalar.addi v185 v186
  v187.toNat
def k0_dev9 (d0 : Dev nD) : Nat :=
  let c0_i32_168 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_167 : BitVec 32 := 4#32
  let v211 : BitVec 32 := Scalar.muli v9 c4_i32_167
  let v212 : BitVec 32 := Scalar.addi c0_i32_168 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v213 : BitVec 32 := Scalar.muli v5 c2_i32_169
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v215 : BitVec 32 := Scalar.muli v8 c1_i32_170
  let v216 : BitVec 32 := Scalar.addi v214 v215
  v216.toNat
def k0_dev10 (d0 : Dev nD) : Nat :=
  let c0_i32_191 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_190 : BitVec 32 := 4#32
  let v240 : BitVec 32 := Scalar.muli v9 c4_i32_190
  let v241 : BitVec 32 := Scalar.addi c0_i32_191 v240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v242 : BitVec 32 := Scalar.muli v5 c2_i32_192
  let v243 : BitVec 32 := Scalar.addi v241 v242
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v244 : BitVec 32 := Scalar.muli v8 c1_i32_193
  let v245 : BitVec 32 := Scalar.addi v243 v244
  v245.toNat
def k0_dev11 (d0 : Dev nD) : Nat :=
  let c0_i32_209 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_208 : BitVec 32 := 4#32
  let v263 : BitVec 32 := Scalar.muli v9 c4_i32_208
  let v264 : BitVec 32 := Scalar.addi c0_i32_209 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_210 : BitVec 32 := 2#32
  let v265 : BitVec 32 := Scalar.muli v5 c2_i32_210
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_211 : BitVec 32 := 1#32
  let v267 : BitVec 32 := Scalar.muli v8 c1_i32_211
  let v268 : BitVec 32 := Scalar.addi v266 v267
  v268.toNat
def k0_dev12 (d0 : Dev nD) : Nat :=
  let c0_i32_270 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_269 : BitVec 32 := 4#32
  let v336 : BitVec 32 := Scalar.muli v2 c4_i32_269
  let v337 : BitVec 32 := Scalar.addi c0_i32_270 v336
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_271 : BitVec 32 := 2#32
  let v338 : BitVec 32 := Scalar.muli v10 c2_i32_271
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v340 : BitVec 32 := Scalar.muli v8 c1_i32_272
  let v341 : BitVec 32 := Scalar.addi v339 v340
  v341.toNat
def k0_dev13 (d0 : Dev nD) : Nat :=
  let c0_i32_280 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_279 : BitVec 32 := 4#32
  let v348 : BitVec 32 := Scalar.muli v2 c4_i32_279
  let v349 : BitVec 32 := Scalar.addi c0_i32_280 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_281 : BitVec 32 := 2#32
  let v350 : BitVec 32 := Scalar.muli v5 c2_i32_281
  let v351 : BitVec 32 := Scalar.addi v349 v350
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_282 : BitVec 32 := 1#32
  let v352 : BitVec 32 := Scalar.muli v11 c1_i32_282
  let v353 : BitVec 32 := Scalar.addi v351 v352
  v353.toNat
def k0_dev14 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v416 : BitVec 32 := Scalar.muli v2 c4_i32_336
  let v417 : BitVec 32 := Scalar.addi c0_i32_337 v416
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_338 : BitVec 32 := 2#32
  let v418 : BitVec 32 := Scalar.muli v10 c2_i32_338
  let v419 : BitVec 32 := Scalar.addi v417 v418
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v420 : BitVec 32 := Scalar.muli v8 c1_i32_339
  let v421 : BitVec 32 := Scalar.addi v419 v420
  v421.toNat
def k0_dev15 (d0 : Dev nD) : Nat :=
  let c0_i32_347 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_346 : BitVec 32 := 4#32
  let v428 : BitVec 32 := Scalar.muli v2 c4_i32_346
  let v429 : BitVec 32 := Scalar.addi c0_i32_347 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v430 : BitVec 32 := Scalar.muli v5 c2_i32_348
  let v431 : BitVec 32 := Scalar.addi v429 v430
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_349 : BitVec 32 := 1#32
  let v432 : BitVec 32 := Scalar.muli v11 c1_i32_349
  let v433 : BitVec 32 := Scalar.addi v431 v432
  v433.toNat
def k0_dev16 (d0 : Dev nD) : Nat :=
  let c0_i32_404 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_403 : BitVec 32 := 4#32
  let v496 : BitVec 32 := Scalar.muli v2 c4_i32_403
  let v497 : BitVec 32 := Scalar.addi c0_i32_404 v496
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_405 : BitVec 32 := 2#32
  let v498 : BitVec 32 := Scalar.muli v10 c2_i32_405
  let v499 : BitVec 32 := Scalar.addi v497 v498
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_406 : BitVec 32 := 1#32
  let v500 : BitVec 32 := Scalar.muli v8 c1_i32_406
  let v501 : BitVec 32 := Scalar.addi v499 v500
  v501.toNat
def k0_dev17 (d0 : Dev nD) : Nat :=
  let c0_i32_414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_413 : BitVec 32 := 4#32
  let v508 : BitVec 32 := Scalar.muli v2 c4_i32_413
  let v509 : BitVec 32 := Scalar.addi c0_i32_414 v508
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_415 : BitVec 32 := 2#32
  let v510 : BitVec 32 := Scalar.muli v5 c2_i32_415
  let v511 : BitVec 32 := Scalar.addi v509 v510
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_416 : BitVec 32 := 1#32
  let v512 : BitVec 32 := Scalar.muli v11 c1_i32_416
  let v513 : BitVec 32 := Scalar.addi v511 v512
  v513.toNat
def k0_dev18 (d0 : Dev nD) : Nat :=
  let c0_i32_471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_470 : BitVec 32 := 4#32
  let v576 : BitVec 32 := Scalar.muli v2 c4_i32_470
  let v577 : BitVec 32 := Scalar.addi c0_i32_471 v576
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_472 : BitVec 32 := 2#32
  let v578 : BitVec 32 := Scalar.muli v10 c2_i32_472
  let v579 : BitVec 32 := Scalar.addi v577 v578
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_473 : BitVec 32 := 1#32
  let v580 : BitVec 32 := Scalar.muli v8 c1_i32_473
  let v581 : BitVec 32 := Scalar.addi v579 v580
  v581.toNat
def k0_dev19 (d0 : Dev nD) : Nat :=
  let c0_i32_481 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_480 : BitVec 32 := 4#32
  let v588 : BitVec 32 := Scalar.muli v2 c4_i32_480
  let v589 : BitVec 32 := Scalar.addi c0_i32_481 v588
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v590 : BitVec 32 := Scalar.muli v5 c2_i32_482
  let v591 : BitVec 32 := Scalar.addi v589 v590
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_483 : BitVec 32 := 1#32
  let v592 : BitVec 32 := Scalar.muli v11 c1_i32_483
  let v593 : BitVec 32 := Scalar.addi v591 v592
  v593.toNat
def k0_dev20 (d0 : Dev nD) : Nat :=
  let c0_i32_542 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_541 : BitVec 32 := 4#32
  let v660 : BitVec 32 := Scalar.muli v2 c4_i32_541
  let v661 : BitVec 32 := Scalar.addi c0_i32_542 v660
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_543 : BitVec 32 := 2#32
  let v662 : BitVec 32 := Scalar.muli v10 c2_i32_543
  let v663 : BitVec 32 := Scalar.addi v661 v662
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_544 : BitVec 32 := 1#32
  let v664 : BitVec 32 := Scalar.muli v8 c1_i32_544
  let v665 : BitVec 32 := Scalar.addi v663 v664
  v665.toNat
def k0_dev21 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v672 : BitVec 32 := Scalar.muli v2 c4_i32_551
  let v673 : BitVec 32 := Scalar.addi c0_i32_552 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_553 : BitVec 32 := 2#32
  let v674 : BitVec 32 := Scalar.muli v5 c2_i32_553
  let v675 : BitVec 32 := Scalar.addi v673 v674
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_554 : BitVec 32 := 1#32
  let v676 : BitVec 32 := Scalar.muli v11 c1_i32_554
  let v677 : BitVec 32 := Scalar.addi v675 v676
  v677.toNat
def k0_dev22 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v744 : BitVec 32 := Scalar.muli v2 c4_i32_612
  let v745 : BitVec 32 := Scalar.addi c0_i32_613 v744
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_614 : BitVec 32 := 2#32
  let v746 : BitVec 32 := Scalar.muli v10 c2_i32_614
  let v747 : BitVec 32 := Scalar.addi v745 v746
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_615 : BitVec 32 := 1#32
  let v748 : BitVec 32 := Scalar.muli v8 c1_i32_615
  let v749 : BitVec 32 := Scalar.addi v747 v748
  v749.toNat
def k0_dev23 (d0 : Dev nD) : Nat :=
  let c0_i32_623 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_622 : BitVec 32 := 4#32
  let v756 : BitVec 32 := Scalar.muli v2 c4_i32_622
  let v757 : BitVec 32 := Scalar.addi c0_i32_623 v756
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_624 : BitVec 32 := 2#32
  let v758 : BitVec 32 := Scalar.muli v5 c2_i32_624
  let v759 : BitVec 32 := Scalar.addi v757 v758
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_625 : BitVec 32 := 1#32
  let v760 : BitVec 32 := Scalar.muli v11 c1_i32_625
  let v761 : BitVec 32 := Scalar.addi v759 v760
  v761.toNat
def k0_dev24 (d0 : Dev nD) : Nat :=
  let c0_i32_684 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_683 : BitVec 32 := 4#32
  let v828 : BitVec 32 := Scalar.muli v2 c4_i32_683
  let v829 : BitVec 32 := Scalar.addi c0_i32_684 v828
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_685 : BitVec 32 := 2#32
  let v830 : BitVec 32 := Scalar.muli v10 c2_i32_685
  let v831 : BitVec 32 := Scalar.addi v829 v830
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_686 : BitVec 32 := 1#32
  let v832 : BitVec 32 := Scalar.muli v8 c1_i32_686
  let v833 : BitVec 32 := Scalar.addi v831 v832
  v833.toNat
def k0_dev25 (d0 : Dev nD) : Nat :=
  let c0_i32_694 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_693 : BitVec 32 := 4#32
  let v840 : BitVec 32 := Scalar.muli v2 c4_i32_693
  let v841 : BitVec 32 := Scalar.addi c0_i32_694 v840
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_695 : BitVec 32 := 2#32
  let v842 : BitVec 32 := Scalar.muli v5 c2_i32_695
  let v843 : BitVec 32 := Scalar.addi v841 v842
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_696 : BitVec 32 := 1#32
  let v844 : BitVec 32 := Scalar.muli v11 c1_i32_696
  let v845 : BitVec 32 := Scalar.addi v843 v844
  v845.toNat
def k0_dev26 (d0 : Dev nD) : Nat :=
  let c0_i32_749 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_748 : BitVec 32 := 4#32
  let v906 : BitVec 32 := Scalar.muli v2 c4_i32_748
  let v907 : BitVec 32 := Scalar.addi c0_i32_749 v906
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_750 : BitVec 32 := 2#32
  let v908 : BitVec 32 := Scalar.muli v10 c2_i32_750
  let v909 : BitVec 32 := Scalar.addi v907 v908
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_751 : BitVec 32 := 1#32
  let v910 : BitVec 32 := Scalar.muli v8 c1_i32_751
  let v911 : BitVec 32 := Scalar.addi v909 v910
  v911.toNat
def k0_dev27 (d0 : Dev nD) : Nat :=
  let c0_i32_759 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_758 : BitVec 32 := 4#32
  let v918 : BitVec 32 := Scalar.muli v2 c4_i32_758
  let v919 : BitVec 32 := Scalar.addi c0_i32_759 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_760 : BitVec 32 := 2#32
  let v920 : BitVec 32 := Scalar.muli v5 c2_i32_760
  let v921 : BitVec 32 := Scalar.addi v919 v920
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_761 : BitVec 32 := 1#32
  let v922 : BitVec 32 := Scalar.muli v11 c1_i32_761
  let v923 : BitVec 32 := Scalar.addi v921 v922
  v923.toNat
def k0_dev28 (d0 : Dev nD) : Nat :=
  let c0_i32_779 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_778 : BitVec 32 := 4#32
  let v940 : BitVec 32 := Scalar.muli v2 c4_i32_778
  let v941 : BitVec 32 := Scalar.addi c0_i32_779 v940
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_780 : BitVec 32 := 2#32
  let v942 : BitVec 32 := Scalar.muli v10 c2_i32_780
  let v943 : BitVec 32 := Scalar.addi v941 v942
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_781 : BitVec 32 := 1#32
  let v944 : BitVec 32 := Scalar.muli v8 c1_i32_781
  let v945 : BitVec 32 := Scalar.addi v943 v944
  v945.toNat
def k0_off3 (d0 : Dev nD) (c0_i32_787 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_786 : BitVec 32 := 1024#32
  let v952 : BitVec 32 := Scalar.muli v19 c1024_i32_786
  let v953 : BitVec 32 := Scalar.addi v952 c0_i32_787
  let c0_i32_793 : BitVec 32 := 0#32
  ![v953.toNat, 0]
def k0_dev29 (d0 : Dev nD) : Nat :=
  let c0_i32_809 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_808 : BitVec 32 := 4#32
  let v972 : BitVec 32 := Scalar.muli v2 c4_i32_808
  let v973 : BitVec 32 := Scalar.addi c0_i32_809 v972
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_810 : BitVec 32 := 2#32
  let v974 : BitVec 32 := Scalar.muli v10 c2_i32_810
  let v975 : BitVec 32 := Scalar.addi v973 v974
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_811 : BitVec 32 := 1#32
  let v976 : BitVec 32 := Scalar.muli v8 c1_i32_811
  let v977 : BitVec 32 := Scalar.addi v975 v976
  v977.toNat
def k0_dev30 (d0 : Dev nD) : Nat :=
  let c0_i32_839 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_838 : BitVec 32 := 4#32
  let v1004 : BitVec 32 := Scalar.muli v2 c4_i32_838
  let v1005 : BitVec 32 := Scalar.addi c0_i32_839 v1004
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_840 : BitVec 32 := 2#32
  let v1006 : BitVec 32 := Scalar.muli v10 c2_i32_840
  let v1007 : BitVec 32 := Scalar.addi v1005 v1006
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_841 : BitVec 32 := 1#32
  let v1008 : BitVec 32 := Scalar.muli v8 c1_i32_841
  let v1009 : BitVec 32 := Scalar.addi v1007 v1008
  v1009.toNat
def k0_dev31 (d0 : Dev nD) : Nat :=
  let c0_i32_869 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_868 : BitVec 32 := 4#32
  let v1036 : BitVec 32 := Scalar.muli v2 c4_i32_868
  let v1037 : BitVec 32 := Scalar.addi c0_i32_869 v1036
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_870 : BitVec 32 := 2#32
  let v1038 : BitVec 32 := Scalar.muli v10 c2_i32_870
  let v1039 : BitVec 32 := Scalar.addi v1037 v1038
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_871 : BitVec 32 := 1#32
  let v1040 : BitVec 32 := Scalar.muli v8 c1_i32_871
  let v1041 : BitVec 32 := Scalar.addi v1039 v1040
  v1041.toNat
def k0_dev32 (d0 : Dev nD) : Nat :=
  let c0_i32_899 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_898 : BitVec 32 := 4#32
  let v1068 : BitVec 32 := Scalar.muli v2 c4_i32_898
  let v1069 : BitVec 32 := Scalar.addi c0_i32_899 v1068
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_900 : BitVec 32 := 2#32
  let v1070 : BitVec 32 := Scalar.muli v5 c2_i32_900
  let v1071 : BitVec 32 := Scalar.addi v1069 v1070
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_901 : BitVec 32 := 1#32
  let v1072 : BitVec 32 := Scalar.muli v11 c1_i32_901
  let v1073 : BitVec 32 := Scalar.addi v1071 v1072
  v1073.toNat
def k0_off4 (d0 : Dev nD) (c512_i32_907 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_906 : BitVec 32 := 1024#32
  let v1080 : BitVec 32 := Scalar.muli v16 c1024_i32_906
  let v1081 : BitVec 32 := Scalar.addi v1080 c512_i32_907
  let c0_i32_913 : BitVec 32 := 0#32
  ![v1081.toNat, 0]
def k0_dev33 (d0 : Dev nD) : Nat :=
  let c0_i32_929 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_928 : BitVec 32 := 4#32
  let v1100 : BitVec 32 := Scalar.muli v2 c4_i32_928
  let v1101 : BitVec 32 := Scalar.addi c0_i32_929 v1100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_930 : BitVec 32 := 2#32
  let v1102 : BitVec 32 := Scalar.muli v5 c2_i32_930
  let v1103 : BitVec 32 := Scalar.addi v1101 v1102
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_931 : BitVec 32 := 1#32
  let v1104 : BitVec 32 := Scalar.muli v11 c1_i32_931
  let v1105 : BitVec 32 := Scalar.addi v1103 v1104
  v1105.toNat
def k0_dev34 (d0 : Dev nD) : Nat :=
  let c0_i32_959 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_958 : BitVec 32 := 4#32
  let v1132 : BitVec 32 := Scalar.muli v2 c4_i32_958
  let v1133 : BitVec 32 := Scalar.addi c0_i32_959 v1132
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_960 : BitVec 32 := 2#32
  let v1134 : BitVec 32 := Scalar.muli v5 c2_i32_960
  let v1135 : BitVec 32 := Scalar.addi v1133 v1134
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_961 : BitVec 32 := 1#32
  let v1136 : BitVec 32 := Scalar.muli v11 c1_i32_961
  let v1137 : BitVec 32 := Scalar.addi v1135 v1136
  v1137.toNat
def k0_dev35 (d0 : Dev nD) : Nat :=
  let c0_i32_989 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_988 : BitVec 32 := 4#32
  let v1164 : BitVec 32 := Scalar.muli v2 c4_i32_988
  let v1165 : BitVec 32 := Scalar.addi c0_i32_989 v1164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_990 : BitVec 32 := 2#32
  let v1166 : BitVec 32 := Scalar.muli v5 c2_i32_990
  let v1167 : BitVec 32 := Scalar.addi v1165 v1166
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_991 : BitVec 32 := 1#32
  let v1168 : BitVec 32 := Scalar.muli v11 c1_i32_991
  let v1169 : BitVec 32 := Scalar.addi v1167 v1168
  v1169.toNat
def k0_off5 (d0 : Dev nD) (c0_i32_1177 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_1176 : BitVec 32 := 1024#32
  let v1356 : BitVec 32 := Scalar.muli v23 c1024_i32_1176
  let v1357 : BitVec 32 := Scalar.addi v1356 c0_i32_1177
  let c0_i32_1183 : BitVec 32 := 0#32
  ![v1357.toNat, 0]
abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.TextEq.lean ====
/- The printed body is the short program of Proof/Text.lean. -/
module

public import proofs.«01_k».proof.Proof.Text

@[expose] public section

noncomputable section

namespace Cert.Kernel.RS

open Idealize.ShloMosaic Idealize.SL.Sem Cert.Kernel.Gen

variable {F : FTy → Type} [FloatOps F]

set_option maxRecDepth 65536 in
set_option maxHeartbeats 4000000 in
theorem text_eq :
    (cc0_body_skel paM (Memref.isWhole_whole _) reM (Memref.isWhole_whole _) gaM (Memref.isWhole_whole _)
      outM (Memref.isWhole_whole _) lvM (Memref.isWhole_whole _) sendM (Memref.isWhole_whole _)
      recvM (Memref.isWhole_whole _) gyM (Memref.isWhole_whole _) gzM (Memref.isWhole_whole _)
      gdM (Memref.isWhole_whole _) cc0_scratch6 cc0_scratch7 cc0_scratch8 cc0_scratch9 cc0_scratch10
      cc0_scratch11 cc0_scratch12 cc0_scratch13 cc0_scratch14 cc0_scratch15 cc0_scratch16 cc0_scratch17
      : Prog (Eff F) PUnit) = text := by
  chain_rfl

end Cert.Kernel.RS

end
-- ==== Proof.TextIdeal.lean ====
/- The kernel's body as a short program over numbered chunks and numbered transfers: two chunk loops, the
   forwarding of the quarters, the stores of the result. `text_eq` (Proof/TextEq.lean) says that this is the
   printed body. -/
module

public import proofs.«01_k».proof.Proof.Gen.KernelIdeal.Skeleton
public import proofs.«01_k».proof.Proof.Gen.KernelIdeal.Launch

@[expose] public section

noncomputable section

namespace Cert.KernelIdeal.RS

open Idealize.ShloMosaic Idealize.SL.Sem Cert.KernelIdeal.Gen

variable {F : FTy → Type} [FloatOps F]

/-- The effects of the body. -/
abbrev Eff (F : FTy → Type) := TpuEff nD τ sig (Elt F) Λ₀ (.tc : Proc τ)
/-- A buffer of eight chunks. -/
abbrev Quarter := Memref sig .tc .vmem S1024x4096 .bf16
/-- One chunk, 128 rows. -/
abbrev Chunk (sp : Space) (e : EltTy) := Memref sig .tc sp S128x4096 e

/-! ## The buffers -/

abbrev paM : Memref sig .tc .hbm S4096x4096 .f32 := Memref.whole main_v1
abbrev reM : Memref sig .tc .hbm S4096x4096 .f32 := Memref.whole main_arg1
abbrev gaM : Memref sig .tc .vmem S1x4096 .f32 := Memref.whole cc0_stg0_0
abbrev outM : Memref sig .tc .hbm S4096x4096 .bf16 := Memref.whole main_v3
abbrev lvM : Memref sig .tc .vmem S2x128x4096 .f32 := Memref.whole cc0_scratch0
abbrev sendM : Quarter := Memref.whole cc0_scratch1
abbrev recvM : Quarter := Memref.whole cc0_scratch2
abbrev gyM : Quarter := Memref.whole cc0_scratch3
abbrev gzM : Quarter := Memref.whole cc0_scratch4
abbrev gdM : Quarter := Memref.whole cc0_scratch5

theorem rows_inb (k : Fin 8) : ∀ a, (![128 * k.val, 0] : Fin 2 → ℕ) a + S128x4096.size a ≤ S1024x4096.size a := by
  revert k; decide
/-- The rectangle of chunk `k`'s rows. -/
abbrev rowsR (k : Fin 8) : Rect S1024x4096 := Rect.unit (s := S1024x4096) ![128 * k.val, 0] S128x4096.size (rows_inb k)
theorem rows_words : ∀ k : Fin 8, (rowsR k).WholeWords (EltTy.packing .bf16) := by decide
theorem rows_packed : ∀ k : Fin 8, (rowsR k).PackedRows (EltTy.packing .bf16) := by decide
/-- Chunk `k` of a quarter. -/
abbrev rows (b : Quarter) (k : Fin 8) : Chunk .vmem .bf16 := b.slice (rowsR k) (fun _ => rfl)
theorem rows_exact (b : Quarter) (hb : b.IsWhole) (k : Fin 8) : (rows b k).view.WordExact :=
  hb.wordExact_slice rfl _ (rows_words k)

/-- 128 rows of a whole array. -/
abbrev band {e : EltTy} (a : Memref sig .tc .hbm S4096x4096 e) (off : Fin 2 → ℕ)
    (h : ∀ i, off i + S128x4096.size i ≤ S4096x4096.size i) : Chunk .hbm e :=
  a.slice (Rect.unit (s := S4096x4096) off S128x4096.size h) (fun _ => rfl)

theorem slot_inb (s : Fin 2) : ∀ a, (![s.val, 0, 0] : Fin 3 → ℕ) a + S1x128x4096.size a ≤ S2x128x4096.size a := by
  revert s; decide
abbrev slotR (s : Fin 2) : Rect S2x128x4096 := Rect.unit (s := S2x128x4096) ![s.val, 0, 0] S1x128x4096.size (slot_inb s)
/-- Slot `s` of the staging buffer for the input, as one chunk. -/
abbrev slot (s : Fin 2) : Chunk .vmem .f32 :=
  (lvM.slice (slotR s) (fun _ => rfl)).squeeze S128x4096 squeezes_S1x128x4096_S128x4096

/-! ## The transfers, numbered in the order they are started

`0 … 7` the raw chunks along x; `8 + 2k`, `9 + 2k` chunk `k` of the result along y and z; `24 … 27` the first four
chunks of the z-neighbour's quarter forwarded along y; `28 … 31` the last four of the y-neighbour's along z. -/

/-- The chunk that transfer `t` carries. -/
def chT (t : Fin 32) : Fin 8 :=
  if t.val < 8 then ⟨t.val % 8, Nat.mod_lt _ (by decide)⟩
  else if t.val < 24 then ⟨(t.val - 8) / 2 % 8, Nat.mod_lt _ (by decide)⟩
  else ⟨(t.val - 24) % 8, Nat.mod_lt _ (by decide)⟩
/-- The quarter it is read from. -/
def srcB (t : Fin 32) : Quarter := if t.val < 24 then sendM else if t.val < 28 then gzM else gyM
/-- The quarter it is written to, on the receiver. -/
def dstB (t : Fin 32) : Quarter :=
  if t.val < 8 then recvM else if t.val < 24 then (if t.val % 2 = 0 then gyM else gzM) else gdM
abbrev srcC (t : Fin 32) : Chunk .vmem .bf16 := rows (srcB t) (chT t)
abbrev dstC (t : Fin 32) : Chunk .vmem .bf16 := rows (dstB t) (chT t)
theorem srcB_whole (t : Fin 32) : (srcB t).IsWhole := by
  unfold srcB; split; exact Memref.isWhole_whole _; split <;> exact Memref.isWhole_whole _
theorem dstB_whole (t : Fin 32) : (dstB t).IsWhole := by
  unfold dstB; repeat (first | exact Memref.isWhole_whole _ | split)
theorem srcC_exact (t : Fin 32) : (srcC t).view.WordExact := rows_exact _ (srcB_whole t) _
theorem dstC_exact (t : Fin 32) : (dstC t).view.WordExact := rows_exact _ (dstB_whole t) _

/-- The semaphore that counts its departure, on the sender … -/
def sS (t : Fin 32) : DmaSem sig :=
  (if t.val < 8 then 7 + t.val else if t.val < 24 then (if t.val % 2 = 0 then 23 else 39) + (t.val - 8) / 2
    else if t.val < 28 then 55 + (t.val - 24) else 63 + (t.val - 28) : ℕ) |> Fin.ofNat 71
/-- … and the one that counts its arrival, on the receiver. -/
def rS (t : Fin 32) : DmaSem sig :=
  (if t.val < 8 then 15 + t.val else if t.val < 24 then (if t.val % 2 = 0 then 31 else 47) + (t.val - 8) / 2
    else if t.val < 28 then 59 + (t.val - 24) else 67 + (t.val - 28) : ℕ) |> Fin.ofNat 71

/-- The device it goes to, as the body computes it. -/
def tgtN (c : Dev nD) (t : Fin 32) : ℕ :=
  (![k0_dev4 c, k0_dev5 c, k0_dev6 c, k0_dev7 c, k0_dev8 c, k0_dev9 c, k0_dev10 c, k0_dev11 c,
     k0_dev12 c, k0_dev13 c, k0_dev14 c, k0_dev15 c, k0_dev16 c, k0_dev17 c, k0_dev18 c, k0_dev19 c,
     k0_dev20 c, k0_dev21 c, k0_dev22 c, k0_dev23 c, k0_dev24 c, k0_dev25 c, k0_dev26 c, k0_dev27 c,
     k0_dev28 c, k0_dev29 c, k0_dev30 c, k0_dev31 c, k0_dev32 c, k0_dev33 c, k0_dev34 c, k0_dev35 c] : Fin 32 → ℕ) t
theorem tgtN_lt : ∀ (c : Dev nD) (t : Fin 32), tgtN c t < nD := by decide +kernel

/-! ## The stores of the result, numbered in order -/

/-- The quarter that store `j` reads. -/
def stB (j : Fin 32) : Quarter :=
  if j.val < 8 then sendM
  else if j.val < 24 then (if (j.val / 4) % 2 = 0 then gzM else gyM)
  else gdM
/-- Its chunk. -/
def stC (j : Fin 32) : Fin 8 :=
  if j.val < 8 then ⟨j.val % 8, Nat.mod_lt _ (by decide)⟩
  else if j.val < 16 then ⟨(j.val - 8) % 8, Nat.mod_lt _ (by decide)⟩
  else if j.val < 20 then ⟨(j.val - 12) % 8, Nat.mod_lt _ (by decide)⟩
  else if j.val < 24 then ⟨(j.val - 20) % 8, Nat.mod_lt _ (by decide)⟩
  else ⟨(j.val - 24) % 8, Nat.mod_lt _ (by decide)⟩
theorem stB_whole (j : Fin 32) : (stB j).IsWhole := by
  unfold stB; repeat (first | exact Memref.isWhole_whole _ | split)
/-- The rows of the result that it writes. -/
def stOff (c : Dev nD) (j : Fin 32) : Fin 2 → ℕ :=
  if j.val < 8 then k0_off2 c (BitVec.ofNat 32 (128 * (stC j).val))
  else if j.val < 24 then
    (if (j.val / 4) % 2 = 0 then k0_off3 c (BitVec.ofNat 32 (128 * (stC j).val))
     else k0_off4 c (BitVec.ofNat 32 (128 * (stC j).val)))
  else k0_off5 c (BitVec.ofNat 32 (128 * (stC j).val))
theorem stOff_inb (c : Dev nD) (j : Fin 32) : ∀ a, stOff c j a + S128x4096.size a ≤ S4096x4096.size a := by
  unfold stOff; split
  · exact k0_off2_inb c _
  · split
    · split
      · exact k0_off3_inb c _
      · exact k0_off4_inb c _
    · exact k0_off5_inb c _
theorem stOff_words (c : Dev nD) (j : Fin 32) :
    (Rect.unit (s := S4096x4096) (stOff c j) S128x4096.size (stOff_inb c j)).WholeWords (EltTy.packing .bf16) := by
  have key : ∀ off (h : ∀ a, off a + S128x4096.size a ≤ S4096x4096.size a), stOff c j = off →
      (Rect.unit (s := S4096x4096) off S128x4096.size h).WholeWords (EltTy.packing .bf16) →
      (Rect.unit (s := S4096x4096) (stOff c j) S128x4096.size (stOff_inb c j)).WholeWords (EltTy.packing .bf16) := by
    intro off h e hw; subst e; exact hw
  by_cases h : j.val < 8
  · exact key _ (k0_off2_inb c (stC j)) (by simp [stOff, h]) (k0_off2_wordsbf16 c _)
  · by_cases h' : j.val < 24
    · by_cases h'' : (j.val / 4) % 2 = 0
      · exact key _ (k0_off3_inb c (stC j)) (by simp [stOff, h, h', h'']) (k0_off3_wordsbf16 c _)
      · exact key _ (k0_off4_inb c (stC j)) (by simp [stOff, h, h', h'']) (k0_off4_wordsbf16 c _)
    · exact key _ (k0_off5_inb c (stC j)) (by simp [stOff, h, h']) (k0_off5_wordsbf16 c _)
abbrev stSrc (j : Fin 32) : Chunk .vmem .bf16 := rows (stB j) (stC j)
abbrev stDst (c : Dev nD) (j : Fin 32) : Chunk .hbm .bf16 := band outM (stOff c j) (stOff_inb c j)
theorem stSrc_exact (j : Fin 32) : (stSrc j).view.WordExact := rows_exact _ (stB_whole j) _
theorem stDst_exact (c : Dev nD) (j : Fin 32) : (stDst c j).view.WordExact :=
  (Memref.isWhole_whole _).wordExact_slice rfl _ (stOff_words c j)

/-- The semaphores of the two input slots and of the four stores in flight. -/
def ldS (s : Fin 2) : DmaSem sig := Fin.ofNat 71 (1 + s.val)
def stS (j : Fin 32) : DmaSem sig := Fin.ofNat 71 (3 + j.val % 4)

/-! ## The values -/

/-- A chunk of the partial product, rounded. -/
def cnv (v : Vec F S1x128x4096 .f32) : FVec F S128x4096 .bf16 :=
  shapeCast S128x4096 (truncf .bf16 (shapeCast S128x4096 v shapeCasts_S1x128x4096_S128x4096) bitsLt_bf16_f32)
    shapeCasts_S128x4096_S128x4096
/-- The sum of the two rounded partial products and of the residual. -/
def sum3 (a b : Vec F S128x4096 .bf16) (r : Vec F S1x128x4096 .f32) : FVec F S128x4096 .f32 :=
  addf (addf (extf .f32 a bitsLt_bf16_f32) (extf .f32 b bitsLt_bf16_f32))
    (shapeCast S128x4096 r shapeCasts_S1x128x4096_S128x4096)
/-- The inverse root mean square of each row. -/
def invRms (y : FVec F S128x4096 .f32) : FVec F S128x1 .f32 :=
  rsqrt (addf
    (divf (shapeCast S128x1 (multiReduction .add [1] S128 (mulf y y) 0x00000000#32 reduces_S128x4096_S128 (.inl rfl) rfl)
        shapeCasts_S128_S128x1)
      (broadcast S128x1 (Scalar.ofBits .f32 0x45800000#32)))
    (broadcast S128x1 (Scalar.ofBits .f32 0x358637BD#32)))
/-- The chunk of the result: the sum scaled row by row, times the gain, rounded. -/
def nrm (a b : Vec F S128x4096 .bf16) (r : Vec F S1x128x4096 .f32) (g : Vec F S1x4096 .f32) : FVec F S128x4096 .bf16 :=
  shapeCast S128x4096
    (truncf .bf16
      (mulf (mulf (sum3 a b r) (broadcastTo S128x4096 (invRms (sum3 a b r)) broadcasts_S128x1_S128x4096))
        (broadcastTo S128x4096 (shapeCast S1x4096 g shapeCasts_S1x4096_S1x4096) broadcasts_S1x4096_S128x4096))
      bitsLt_bf16_f32)
    shapeCasts_S128x4096_S128x4096

/-! ## The steps -/

/-- Where chunk `k` of device `c`'s own quarter starts in the whole array, as the body computes it. -/
def ldOff (c : Dev nD) (k : Fin 8) : Fin 2 → ℕ :=
  if k.val = 0 then k0_off1 c else k0_off2 c (BitVec.ofNat 32 (128 * k.val))
theorem ldOff_inb (c : Dev nD) (k : Fin 8) : ∀ a, ldOff c k a + S128x4096.size a ≤ S4096x4096.size a := by
  unfold ldOff; split; exact k0_off1_inb c; exact k0_off2_inb c k
/-- The slot that chunk `k` is loaded to. -/
def sl (k : Fin 8) : Fin 2 := ⟨k.val % 2, Nat.mod_lt _ (by decide)⟩
abbrev ldSrc (a : Memref sig .tc .hbm S4096x4096 .f32) (c : Dev nD) (k : Fin 8) : Chunk .hbm .f32 :=
  band a (ldOff c k) (ldOff_inb c k)

def ldStart (a : Memref sig .tc .hbm S4096x4096 .f32) (c : Dev nD) (k : Fin 8) : Prog (Eff F) PUnit :=
  Prog.lift (.enqueueDma (ldSrc a c k) (.here (slot (sl k))) (.dma (ldS (sl k))) (View.wordExact_bits rfl)
    ((View.wordExact_bits rfl).reshape _ _) ⟨Or.inl rfl, trivial⟩)
def ldWait (a : Memref sig .tc .hbm S4096x4096 .f32) (c : Dev nD) (k : Fin 8) : Prog (Eff F) PUnit :=
  Prog.lift (.waitDma2 (ldS (sl k)) (ldSrc a c k) (slot (sl k)) (View.wordExact_bits rfl)
    ((View.wordExact_bits rfl).reshape _ _))
def ldRead (k : Fin 8) : Prog (Eff F) (Vec F S1x128x4096 .f32) :=
  Prog.lift (.load lvM (slotR (sl k)).toLoadRect (View.loadsAt_vmem h_S1x128x4096))
def rdRows (b : Quarter) (k : Fin 8) : Prog (Eff F) (Vec F S128x4096 .bf16) :=
  Prog.lift (.load b (rowsR k).toLoadRect (View.loadsAt_vmem h_S128x4096))
def wrRows (k : Fin 8) (w : Vec F S128x4096 .bf16) : Prog (Eff F) PUnit :=
  Prog.lift (.store sendM (rowsR k) w Finset.univ
    (View.stores_vmem h_S128x4096 ((Memref.isWhole_whole _).storeExact_slice rfl _ (rows_packed k)) (fun _ => rfl)) (.inl rfl))
def rdGain : Prog (Eff F) (Vec F S1x4096 .f32) :=
  Prog.lift (.load gaM (Rect.unit (s := S1x4096) ![0, 0] S1x4096.size inb_S1x4096_S1x4096_0_0).toLoadRect
    (View.loadsAt_vmem h_S1x4096))
def send (c : Dev nD) (t : Fin 32) : Prog (Eff F) PUnit :=
  Prog.lift (.enqueueDma (srcC t) (.remote (Dev.tc (⟨tgtN c t, tgtN_lt c t⟩ : Dev nD)) (dstC t) (.dma (sS t))) (.dma (rS t))
    (srcC_exact t) (dstC_exact t) ⟨⟨rfl, Or.inl rfl⟩, trivial⟩)
def waitR (t : Fin 32) : Prog (Eff F) PUnit :=
  Prog.lift (.waitDma2 (rS t) (srcC t) (dstC t) (srcC_exact t) (dstC_exact t))
def waitS (t : Fin 32) : Prog (Eff F) PUnit :=
  Prog.lift (.waitDma2 (sS t) (dstC t) (srcC t) (dstC_exact t) (srcC_exact t))
def stWait (c : Dev nD) (j : Fin 32) : Prog (Eff F) PUnit :=
  Prog.lift (.waitDma2 (stS j) (stSrc j) (stDst c j) (stSrc_exact j) (stDst_exact c j))
def stStart (c : Dev nD) (j : Fin 32) : Prog (Eff F) PUnit :=
  Prog.lift (.enqueueDma (stSrc j) (.here (stDst c j)) (.dma (stS j)) (stSrc_exact j) (stDst_exact c j)
    ⟨Or.inl rfl, trivial⟩)
/-- Store `j`, behind the wait for the store that last used its semaphore. -/
def emit (c : Dev nD) (j : Fin 32) : Prog (Eff F) PUnit :=
  if 4 ≤ j.val then stWait c ⟨j.val - 4, by omega⟩ >>= fun _ => stStart c j else stStart c j

/-! ## The body -/

/-- `f 0; …; f (n - 1)`. -/
def times {E : Type → Type} : (n : ℕ) → (Fin n → Prog E PUnit) → Prog E PUnit
  | 0, _ => pure ⟨⟩
  | n + 1, f => f 0 >>= fun _ => times n fun i => f i.succ

/-- Chunk `k` rounded and started towards the x-neighbour. -/
def give (c : Dev nD) (k : Fin 8) : Prog (Eff F) PUnit := do
  ldWait paM c k
  let v ← ldRead k
  let _ ← rdRows sendM k
  wrRows k (cnv v)
  send c ⟨k.val, by omega⟩
/-- Chunk `k` of the result, started towards the y-neighbour, the z-neighbour and the result. -/
def take (c : Dev nD) (k : Fin 8) : Prog (Eff F) PUnit := do
  waitR ⟨k.val, by omega⟩
  ldWait reM c k
  let a ← rdRows sendM k
  let b ← rdRows recvM k
  let r ← ldRead k
  let g ← rdGain
  waitS ⟨k.val, by omega⟩
  let _ ← rdRows sendM k
  wrRows k (nrm a b r g)
  emit c ⟨k.val, by omega⟩
  send c ⟨8 + 2 * k.val, by omega⟩
  send c ⟨9 + 2 * k.val, by omega⟩
/-- Chunk `k` of the z-neighbour's quarter forwarded along y, and stored. -/
def forthY (c : Dev nD) (k : Fin 4) : Prog (Eff F) PUnit := do
  waitR ⟨9 + 2 * k.val, by omega⟩
  send c ⟨24 + k.val, by omega⟩
  emit c ⟨8 + k.val, by omega⟩
/-- Chunk `4 + k` of the y-neighbour's quarter forwarded along z, and stored. -/
def forthZ (c : Dev nD) (k : Fin 4) : Prog (Eff F) PUnit := do
  waitR ⟨16 + 2 * k.val, by omega⟩
  send c ⟨28 + k.val, by omega⟩
  emit c ⟨12 + k.val, by omega⟩
/-- An arrival waited for, and stored. -/
def keep (c : Dev nD) (t j : Fin 32) : Prog (Eff F) PUnit := do
  waitR t
  emit c j

def hello (c : Dev nD) : Prog (Eff F) PUnit := do
  semSignalWord (⟨k0_dev1 c, k0_dev1_lt c⟩ : Dev nD) barrier0 1#32
  semSignalWord (⟨k0_dev2 c, k0_dev2_lt c⟩ : Dev nD) barrier0 1#32
  semSignalWord (⟨k0_dev3 c, k0_dev3_lt c⟩ : Dev nD) barrier0 1#32
  semWaitWord barrier0 3#32
def phase1 (c : Dev nD) : Prog (Eff F) PUnit := do
  ldStart paM c 0
  times 7 fun k => (do ldStart paM c k.succ; give c k.castSucc)
  give c 7
def phase2 (c : Dev nD) : Prog (Eff F) PUnit := do
  ldStart reM c 0
  times 7 fun k => (do ldStart reM c k.succ; take c k.castSucc)
  take c 7
def phase3 (c : Dev nD) : Prog (Eff F) PUnit := do
  times 4 (forthY c)
  times 4 (forthZ c)
  times 4 fun k => keep c ⟨17 + 2 * k.val, by omega⟩ ⟨16 + k.val, by omega⟩
  times 4 fun k => keep c ⟨8 + 2 * k.val, by omega⟩ ⟨20 + k.val, by omega⟩
  times 8 fun k => keep c ⟨24 + k.val, by omega⟩ ⟨24 + k.val, by omega⟩
def phase4 (c : Dev nD) : Prog (Eff F) PUnit := do
  times 8 fun k => waitS ⟨8 + 2 * k.val, by omega⟩
  times 8 fun k => waitS ⟨9 + 2 * k.val, by omega⟩
  times 8 fun k => waitS ⟨24 + k.val, by omega⟩
  times 4 fun k => stWait c ⟨28 + k.val, by omega⟩

def text : Prog (Eff F) PUnit := do
  let c ← Prog.lift .deviceId
  hello c
  phase1 c
  phase2 c
  phase3 c
  phase4 c

end Cert.KernelIdeal.RS

end
-- ==== Proof.PlanIdeal.lean ====
/- The plan of the exchange: who talks to whom, what each chunk holds, the rounds of the barrier cells and of the
   arrival cells, what a device owes at each point, the levels. -/
module

public import proofs.«01_k».proof.Proof.TextIdeal
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part, the rounds of this exchange, the counters of the flights -/

/-- Three duties: a barrier cell has one for each neighbour. -/
abbrev Duty : Type := Fin 3
abbrev UB : Type := URounds (GSem nD τ sig) Duty
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_lands : (ER (F := F)).LandsIn (upEmb : UEmb _ 𝕄) := by unfold ER; infer_instance

omit [FloatOps F] in
/-- A family that holds something at one index only. -/
theorem bigSep_one {ι : Type} [Fintype ι] [DecidableEq ι] (i : ι) {f : ι → sProp 𝕄} (h : ∀ j, j ≠ i → f j = iprop(emp)) :
    bigSep Finset.univ f = f i := by
  rw [bigSep_univ_split i, bigSep_congr (s := Finset.univ.erase i) (Ψ := fun _ => (BI.emp : sProp 𝕄))
    (fun j hj => h j (Finset.ne_of_mem_erase hj)), bigSep_emp_const]
  exact BI.equiv_iff.mp BI.sep_emp

/-! ## The mesh -/

/-- The neighbour of a device along the direction x (`0`), y (`1`) or z (`2`). -/
def nb (d : Fin 3) (c : Dev nD) : Dev nD :=
  match d with
  | 0 => ⟨k0_dev1 c, k0_dev1_lt c⟩
  | 1 => ⟨k0_dev2 c, k0_dev2_lt c⟩
  | 2 => ⟨k0_dev3 c, k0_dev3_lt c⟩
theorem nb_nb : ∀ (d : Fin 3) (c : Dev nD), nb d (nb d c) = c := by decide +kernel
theorem nb_comm : ∀ c : Dev nD, nb 1 (nb 2 c) = nb 2 (nb 1 c) := by decide +kernel

/-- The direction of transfer `t`. -/
def dir (t : Fin 32) : Fin 3 :=
  if t.val < 8 then 0 else if t.val < 24 then (if t.val % 2 = 0 then 1 else 2) else if t.val < 28 then 1 else 2

/-- The device that transfer `t` of device `c` goes to. -/
abbrev tgt (c : Dev nD) (t : Fin 32) : Dev nD := ⟨tgtN c t, tgtN_lt c t⟩
theorem tgt_eq : ∀ (c : Dev nD) (t : Fin 32), tgt c t = nb (dir t) c := by decide +kernel
theorem tgt_tgt (c : Dev nD) (t : Fin 32) : tgt (tgt c t) t = c := by rw [tgt_eq, tgt_eq, nb_nb]

/-! ## The cells -/

abbrev bcell (c : Dev nD) : GSem nD τ sig := ((c : Thread nD τ), .reg barrier0)
abbrev rcell (c : Dev nD) (t : Fin 32) : GSem nD τ sig := ((c : Thread nD τ), .dma (rS t))
theorem rS_inj : ∀ t t' : Fin 32, rS t = rS t' → t = t' := by decide +kernel
theorem sS_ne_rS : ∀ t t' : Fin 32, sS t ≠ rS t' := by decide +kernel
theorem ldS_ne_rS : ∀ (s : Fin 2) (t' : Fin 32), ldS s ≠ rS t' := by decide +kernel
theorem stS_ne_rS : ∀ t t' : Fin 32, stS t ≠ rS t' := by decide +kernel

/-- The credit of one chunk. -/
abbrev N : ℕ := (rows sendM 0).view.dmaCredit
theorem N_pos : 0 < N := View.dmaCredit_pos _ (by decide)
theorem srcC_credit (t : Fin 32) : (srcC t).view.dmaCredit = N := by revert t; decide +kernel
theorem dstC_credit (t : Fin 32) : (dstC t).view.dmaCredit = N := by revert t; decide +kernel

/-! ## The contents -/

variable (PA RE : Dev nD → Fin 8 → Vec F S128x4096 .f32) (GA : Dev nD → Vec F S1x4096 .f32)

/-- A loaded chunk as the slot of the staging buffer holds it. -/
abbrev unsq (v : Vec F S128x4096 .f32) : Vec F S1x128x4096 .f32 :=
  shapeCast S1x128x4096 v (by decide)

/-- Chunk `k` of the partial product of device `c`, rounded. -/
def raw (c : Dev nD) (k : Fin 8) : Vec F S128x4096 .bf16 := cnv (unsq (PA c k))
/-- Chunk `k` of the result of device `c`'s quarter. -/
def res (c : Dev nD) (k : Fin 8) : Vec F S128x4096 .bf16 :=
  nrm (raw PA c k) (raw PA (nb 0 c) k) (unsq (RE c k)) (GA c)

/-- What device `c` sends by transfer `t`. -/
def sent (c : Dev nD) (t : Fin 32) : Vec F S128x4096 .bf16 :=
  if t.val < 8 then raw PA c (chT t)
  else if t.val < 24 then res PA RE GA c (chT t)
  else if t.val < 28 then res PA RE GA (nb 2 c) (chT t)
  else res PA RE GA (nb 1 c) (chT t)
/-- What it receives by it. -/
abbrev got (c : Dev nD) (t : Fin 32) : Vec F S128x4096 .bf16 := sent PA RE GA (tgt c t) t

/-- The device whose quarter store `j` of device `c` writes. -/
def stDev (c : Dev nD) (j : Fin 32) : Dev nD :=
  if j.val < 8 then c
  else if j.val < 24 then (if (j.val / 4) % 2 = 0 then nb 2 c else nb 1 c)
  else nb 2 (nb 1 c)
/-- What store `j` of device `c` writes. -/
abbrev kept (c : Dev nD) (j : Fin 32) : Vec F S128x4096 .bf16 := res PA RE GA (stDev c j) (stC j)

/-! ## The schedule -/

/-- A chunk with some contents. -/
def anyC (c : Dev nD) {sp : Space} {e : EltTy} {s : Shape} (m : Memref sig .tc sp s e) : sProp 𝕄 :=
  iprop(∃ X, owns (c : Thread nD τ) m fullShare X)
omit [FloatOps F] in
instance anyC_storable (c : Dev nD) {sp : Space} {e : EltTy} {s : Shape} (m : Memref sig .tc sp s e) :
    BI.Storable (upEmb : UEmb _ 𝕄) (anyC (F := F) c m) := by unfold anyC; infer_instance

/-- What the neighbour along `d` hands to device `c` with its signal: the chunks that `c`'s transfers along `d` write,
    and that their arrival cells are open. -/
def barPay (c : Dev nD) (d : Fin 3) : sProp 𝕄 :=
  bigSep Finset.univ fun t : Fin 32 => if dir t = d then
    iprop(anyC (tgt c t) (dstC t) ∗ reached ER (rcell (tgt c t) t) 0) else iprop(emp)
/-- What the arrival of transfer `t` hands to device `c`. -/
def recvPay (c : Dev nD) (t : Fin 32) : sProp 𝕄 := owns (c : Thread nD τ) (dstC t) fullShare (got PA RE GA c t)

omit [FloatOps F] in
instance barPay_storable (c : Dev nD) (d : Fin 3) : BI.Storable (upEmb : UEmb _ 𝕄) (barPay (F := F) c d) := by
  have h : ∀ t : Fin 32, BI.Storable (upEmb : UEmb _ 𝕄) (if dir t = d then
    iprop(anyC (F := F) (tgt c t) (dstC t) ∗ reached ER (rcell (tgt c t) t) 0) else iprop(emp)) := by
    intro t; split <;> infer_instance
  unfold barPay; infer_instance
instance recvPay_storable (c : Dev nD) (t : Fin 32) : BI.Storable (upEmb : UEmb _ 𝕄) (recvPay (F := F) PA RE GA c t) := by
  unfold recvPay; infer_instance

/-- One round: a barrier cell has one unit from each neighbour, an arrival cell its chunk. -/
def sched : Rounds.Schedule (GSem nD τ sig) Duty 𝕄 where
  duties g r := if r = 0 ∧ g.1.2 = .tc then
      (if g.2 = .reg barrier0 then Finset.univ else if ∃ t, g.2 = .dma (rS t) then {0} else ∅) else ∅
  unitless _ := False
  amount g _ _ := if g.2 = .reg barrier0 then 1 else N
  payload g _ d := if g.2 = .reg barrier0 then barPay g.1.1 d
    else bigSep Finset.univ fun t : Fin 32 => if g.2 = .dma (rS t) then recvPay PA RE GA g.1.1 t else iprop(emp)
  amount_pos g _ _ _ := by
    split
    · exact Nat.one_pos
    · exact N_pos

instance sched_storable (g : GSem nD τ sig) (r : ℕ) (d : Duty) :
    BI.Storable (upEmb : UEmb _ 𝕄) ((sched (F := F) PA RE GA).payload g r d) := by
  have h : ∀ t : Fin 32, BI.Storable (upEmb : UEmb _ 𝕄)
      (if g.2 = .dma (rS t) then recvPay (F := F) PA RE GA g.1.1 t else iprop(emp)) := by
    intro t; split <;> infer_instance
  show BI.Storable upEmb (if g.2 = .reg barrier0 then barPay g.1.1 d
    else bigSep Finset.univ fun t : Fin 32 => if g.2 = .dma (rS t) then recvPay PA RE GA g.1.1 t else iprop(emp))
  split <;> infer_instance

section Sched
variable (c : Dev nD) (t : Fin 32)

theorem dma_ne_bar (q : DmaSem sig) : (SemLoc.dma q : SemLoc sig) ≠ .reg barrier0 := fun h => by cases h

theorem duties_bar : (sched (F := F) PA RE GA).duties (bcell c) 0 = Finset.univ := by
  dsimp only [sched]; rw [if_pos ⟨rfl, rfl⟩, if_pos rfl]
theorem duties_recv : (sched (F := F) PA RE GA).duties (rcell c t) 0 = {0} := by
  dsimp only [sched]; rw [if_pos ⟨rfl, rfl⟩, if_neg (dma_ne_bar _), if_pos ⟨t, rfl⟩]
theorem duties_later (g : GSem nD τ sig) : ∀ r, 1 ≤ r → (sched (F := F) PA RE GA).duties g r = ∅ :=
  fun r hr => by dsimp only [sched]; rw [if_neg fun h => by omega]
theorem amount_bar (d : Duty) : (sched (F := F) PA RE GA).amount (bcell c) 0 d = 1 := by
  dsimp only [sched]; exact if_pos rfl
theorem amount_recv (d : Duty) : (sched (F := F) PA RE GA).amount (rcell c t) 0 d = N := by
  dsimp only [sched]; exact if_neg (dma_ne_bar _)
theorem expect_bar : (sched (F := F) PA RE GA).expect (bcell c) 0 = 3 := by
  unfold Schedule.expect Schedule.amountOf
  rw [duties_bar, Finset.sum_congr rfl fun d _ => amount_bar PA RE GA c d, Finset.sum_const, Finset.card_univ]; rfl
theorem expect_recv : (sched (F := F) PA RE GA).expect (rcell c t) 0 = N := by
  unfold Schedule.expect Schedule.amountOf; rw [duties_recv, Finset.sum_singleton, amount_recv]
theorem payload_bar (d : Duty) : (sched (F := F) PA RE GA).payload (bcell c) 0 d = barPay c d := by
  dsimp only [sched]; exact if_pos rfl
theorem payload_recv (d : Duty) : (sched (F := F) PA RE GA).payload (rcell c t) 0 d = recvPay PA RE GA c t := by
  dsimp only [sched]
  rw [if_neg (dma_ne_bar _), bigSep_one t fun t' h => if_neg fun e => h (rS_inj _ _ (SemLoc.dma.inj e)).symm, if_pos rfl]
theorem rest_bar : bigSep ((sched (F := F) PA RE GA).duties (bcell c) 0 \ ∅) (fun d => (sched (F := F) PA RE GA).payload (bcell c) 0 d)
    = bigSep Finset.univ (barPay c) := by
  rw [Finset.sdiff_empty, duties_bar]; exact bigSep_congr fun d _ => payload_bar PA RE GA c d
theorem rest_recv : bigSep ((sched (F := F) PA RE GA).duties (rcell c t) 0 \ ∅) (fun d => (sched (F := F) PA RE GA).payload (rcell c t) 0 d)
    = recvPay PA RE GA c t := by
  rw [Finset.sdiff_empty, duties_recv, bigSep_singleton, payload_recv]

end Sched

/-! ## What a device owes; the levels -/

/-- What device `c` owes to the arrival cells once it has started `n` transfers. -/
def owed (c : Dev nD) (n : ℕ) : CellTallies nD τ sig Unit :=
  ∑ t ∈ Finset.univ.filter (fun t : Fin 32 => n ≤ t.val), tallyAt (rcell (tgt c t) t) () N
theorem owed_step (c : Dev nD) (t : Fin 32) :
    owed c t.val = owed c (t.val + 1) + tallyAt (rcell (tgt c t) t) () N := by
  unfold owed
  rw [show Finset.univ.filter (fun t' : Fin 32 => t.val ≤ t'.val)
      = insert t (Finset.univ.filter (fun t' : Fin 32 => t.val + 1 ≤ t'.val)) by
    ext t'; simp only [Finset.mem_filter, Finset.mem_univ, true_and, Finset.mem_insert, Fin.ext_iff]; omega,
    Finset.sum_insert (by simp), add_comm]
theorem owed_done (c : Dev nD) : owed c 32 = 0 := by
  unfold owed
  rw [Finset.filter_false_of_mem (fun t _ => by omega), Finset.sum_empty]

/-- What it owes before the first signal, and after `i` signals. -/
def bowed (c : Dev nD) (i : ℕ) : CellTallies nD τ sig Unit :=
  owed c 0 + ∑ d ∈ Finset.univ.filter (fun d : Fin 3 => i ≤ d.val), tallyAt (bcell (nb d c)) () 1
theorem bowed_step (c : Dev nD) (d : Fin 3) : bowed c d.val = bowed c (d.val + 1) + tallyAt (bcell (nb d c)) () 1 := by
  unfold bowed
  rw [show Finset.univ.filter (fun t' : Fin 3 => d.val ≤ t'.val)
      = insert d (Finset.univ.filter (fun t' : Fin 3 => d.val + 1 ≤ t'.val)) by
    ext t'; simp only [Finset.mem_filter, Finset.mem_univ, true_and, Finset.mem_insert, Fin.ext_iff]; omega,
    Finset.sum_insert (by simp), add_assoc, add_comm (tallyAt _ _ _)]
theorem bowed_done (c : Dev nD) : bowed c 3 = owed c 0 := by
  unfold bowed
  rw [Finset.filter_false_of_mem (fun t _ => by omega), Finset.sum_empty, add_zero]

/-- The level of the arrival of transfer `t`. -/
def lvT (t : Fin 32) : ℕ := if t.val < 8 then 2 else if t.val < 24 then 3 else 4
def L (g : GSem nD τ sig) : Finset Unit := if g.1.2 = .tc then {()} else ∅
/-- Barrier cells at 1, the arrivals above them in the order of the phases, everything else at 0. -/
def lv (g : GSem nD τ sig) (_ : Unit) : ℕ :=
  if g.2 = .reg barrier0 then 1 else ∑ t : Fin 32, if g.2 = .dma (rS t) then lvT t else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bcell c) u = 1 := if_pos rfl
theorem lv_recv (c : Dev nD) (t : Fin 32) (u : Unit) : lv (rcell c t) u = lvT t := by
  unfold lv
  rw [if_neg (dma_ne_bar _), Finset.sum_eq_single t (fun t' _ h => if_neg fun e =>
    h (rS_inj _ _ (SemLoc.dma.inj e).symm)) (fun h => absurd (Finset.mem_univ t) h), if_pos rfl]
theorem lv_low (c : Dev nD) (q : DmaSem sig) (hq : ∀ t, q ≠ rS t) (u : Unit) : lv ((c : Thread nD τ), .dma q) u = 0 := by
  unfold lv
  rw [if_neg (dma_ne_bar _)]
  exact Finset.sum_eq_zero fun t _ => if_neg fun e => hq t (SemLoc.dma.inj e)
theorem lvT_ge (t : Fin 32) : 2 ≤ lvT t := by unfold lvT; split; omega; split <;> omega

theorem sum_tally_pos {ι : Type} (s : Finset ι) (f : ι → CellTallies nD τ sig Unit) {g : GSem nD τ sig} {u : Unit}
    (h : 0 < (∑ i ∈ s, f i) g u) : ∃ i ∈ s, 0 < f i g u := by
  classical
  induction s using Finset.induction_on with
  | empty => rw [Finset.sum_empty] at h; exact absurd h (Nat.lt_irrefl 0)
  | insert i s hi ih =>
    rw [Finset.sum_insert hi, Pi.add_apply, Finsupp.add_apply] at h
    by_cases h' : 0 < f i g u
    · exact ⟨i, Finset.mem_insert_self _ _, h'⟩
    · obtain ⟨j, hj, hp⟩ := ih (by omega)
      exact ⟨j, Finset.mem_insert_of_mem hj, hp⟩
theorem tally_pos {g' g : GSem nD τ sig} {u : Unit} {k : ℕ} (h : 0 < (tallyAt g' () k : CellTallies nD τ sig Unit) g u) : g = g' := by
  rw [tallyAt_apply] at h
  by_contra hn
  rw [if_neg fun h' => hn h'.1] at h
  exact Nat.lt_irrefl 0 h
theorem owed_pos {c : Dev nD} {n : ℕ} {g : GSem nD τ sig} {u : Unit} (h : 0 < owed c n g u) :
    ∃ t : Fin 32, n ≤ t.val ∧ g = rcell (tgt c t) t := by
  obtain ⟨t, ht, hp⟩ := sum_tally_pos _ _ h
  exact ⟨t, (Finset.mem_filter.mp ht).2, tally_pos hp⟩
theorem bowed_pos {c : Dev nD} {i : ℕ} {g : GSem nD τ sig} {u : Unit} (h : 0 < bowed c i g u) :
    (∃ t : Fin 32, g = rcell (tgt c t) t) ∨ ∃ d : Fin 3, g = bcell (nb d c) := by
  unfold bowed at h
  rw [Pi.add_apply, Finsupp.add_apply] at h
  by_cases h' : 0 < owed c 0 g u
  · obtain ⟨t, -, e⟩ := owed_pos h'; exact .inl ⟨t, e⟩
  · rw [Nat.eq_zero_of_not_pos h', Nat.zero_add] at h
    obtain ⟨d, -, hp⟩ := sum_tally_pos _ _ h; exact .inr ⟨d, tally_pos hp⟩

omit [FloatOps F] in
/-- A wait below everything still owed. -/
theorem mayWait (c : Dev nD) (sm : SemLoc sig) (n l : ℕ) (hl : lv ((c : Thread nD τ), sm) () = l)
    (h : ∀ t : Fin 32, n ≤ t.val → l < lvT t) : (levAts L lv : sProp 𝕄) ⊢ MayWait (c : Thread nD τ) sm () (owed c n) :=
  MayOwe.of_cut (L := L) (lev := lv) l
    (fun p hp => by rw [Finset.mem_singleton.mp hp, L_tc]; exact Finset.mem_singleton_self _)
    (fun g u hg => by obtain ⟨t, ht, rfl⟩ := owed_pos hg; rw [L_tc]; exact Finset.mem_singleton_self _)
    (fun p hp => by rw [Finset.mem_singleton.mp hp]; exact le_of_eq hl)
    (fun g u hg => by obtain ⟨t, ht, rfl⟩ := owed_pos hg; rw [lv_recv]; exact h t ht)

omit [FloatOps F] in
/-- The pipeline's own waits, before the body and after it. -/
theorem mayWait_stage (c : Dev nD) (q : DmaSem sig) (hq : ∀ t, q ≠ rS t) (O : CellTallies nD τ sig Unit)
    (hO : O = bowed c 0 ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases bowed_pos hg with ⟨t, rfl⟩ | ⟨d, rfl⟩ <;> exact Finset.mem_singleton_self _)
      (fun p hp => by rw [Finset.mem_singleton.mp hp]; exact le_of_eq (lv_low c q hq ()))
      (fun g u hg => by
        rcases bowed_pos hg with ⟨t, rfl⟩ | ⟨d, rfl⟩
        · rw [lv_recv]; have := lvT_ge t; omega
        · rw [lv_bar]; decide)
  · rw [MayWait_zero]; iintro -; iempintro

end Cert.KernelIdeal.RS

end
-- ==== Proof.StepsIdeal.lean ====
/- The rules of the body's operations, in terms of what a device owns through a memref: loads, stores, local copies,
   transfers to a neighbour, waits. -/
module

public import proofs.«01_k».proof.Proof.PlanIdeal
public import Idealize.ShloMosaic.Lib.Pipeline.Value

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- `p` on device `c`, followed by `Kt`. -/
abbrev run (c : Dev nD) {α : Type} (p : Prog (Eff F) α) (Kt : α → sProp 𝕄) : sProp 𝕄 :=
  wp frame (wpE (defs₀ (F := F)) 𝒱₀ (c : Thread nD τ) none) Set.univ p Kt

variable (c : Dev nD)

/-! ## Shares, families -/

section
variable {sp : Space} {s : Shape} {e : EltTy} (m : Memref sig .tc sp s e)

omit [FloatOps F] in
theorem owns_halve (q : PosShare TreeShare) (X : s.Idx → Elt F e) :
    (owns (c : Thread nD τ) m q X : sProp 𝕄) ⊢ iprop(owns (c : Thread nD τ) m q.left X ∗ owns (c : Thread nD τ) m q.right X) := by
  unfold owns
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

omit [FloatOps F] in
theorem owns_unhalve (q : PosShare TreeShare) (X Y : s.Idx → Elt F e) :
    iprop(owns (c : Thread nD τ) m q.left X ∗ owns (c : Thread nD τ) m q.right Y) ⊢ (owns (c : Thread nD τ) m q X : sProp 𝕄) := by
  unfold owns
  iintro ⟨⟨%f, %hf, H1⟩, ⟨%g, %hg, H2⟩⟩
  iexists f
  isplitr
  · ipureintro; exact hf
  have h : iprop((m.view.loc (c : Thread nD τ) ↦[m.view.set]{q.left} f) ∗ (m.view.loc (c : Thread nD τ) ↦[m.view.set]{q.right} g))
      ⊢ (m.view.loc (c : Thread nD τ) ↦[m.view.set]{q} f : sProp 𝕄) := by
    refine Laws.pure_elim _ pointsTo_agree fun hag => ?_
    rw [pointsTo_congr (f := g) (g := f) (fun i hi => (hag i (Finset.mem_inter.mpr ⟨hi, hi⟩)).1.symm)]
    exact (pointsTo_share (PosShare.mem_left_op_right q)).2
  iapply h
  isplitl [H1] <;> iassumption

omit [FloatOps F] in
theorem anyC_intro (X : s.Idx → Elt F e) : (owns (c : Thread nD τ) m fullShare X : sProp 𝕄) ⊢ anyC c m := by
  unfold anyC; iintro H; iexists X; iexact H
end

omit [FloatOps F] in
/-- One member of a family changed. -/
theorem bigSep_upd {ι : Type} [Fintype ι] [DecidableEq ι] (i : ι) {f g : ι → sProp 𝕄} (h : ∀ j, j ≠ i → f j = g j) :
    bigSep Finset.univ f ⊢ iprop(f i ∗ (g i -∗ bigSep Finset.univ g)) := by
  rw [bigSep_univ_split i, bigSep_univ_split (Φ := g) i,
    bigSep_congr (s := Finset.univ.erase i) (fun j hj => h j (Finset.ne_of_mem_erase hj))]
  show iprop(f i ∗ bigSep (Finset.univ.erase i) g) ⊢ iprop(f i ∗ (g i -∗ (g i ∗ bigSep (Finset.univ.erase i) g)))
  iintro ⟨Hf, Hr⟩
  isplitl [Hf]; · iexact Hf
  iintro Hg
  isplitl [Hg] <;> iassumption

/-- `n` times a step that carries `I k` to `I (k + 1)`. -/
theorem run_times (I : ℕ → sProp 𝕄) : ∀ (n : ℕ) (f : Fin n → Prog (Eff F) PUnit) (m : ℕ) (Kt : PUnit → sProp 𝕄),
    (∀ (k : Fin n) (Kt' : PUnit → sProp 𝕄), iprop(I (m + k.val) ∗ (I (m + k.val + 1) -∗ Kt' ⟨⟩)) ⊢ run c (f k) Kt') →
    iprop(I m ∗ (I (m + n) -∗ Kt ⟨⟩)) ⊢ run c (times n f) Kt
  | 0, f, m, Kt, h => by
    unfold times run
    rw [Prog.pure_eq_ret, wp_ret]
    iintro ⟨H, Hk⟩
    imodintro
    iapply Hk; iexact H
  | n + 1, f, m, Kt, h => by
    unfold times run
    rw [wp_bind]
    have h0 := h 0 (fun _ => run c (times n fun i => f i.succ) Kt)
    rw [Fin.val_zero, Nat.add_zero] at h0
    iintro ⟨H, Hk⟩
    iapply h0
    isplitl [H]; · iexact H
    iintro H
    iapply (run_times I n (fun i => f i.succ) (m + 1) Kt (fun k Kt' => by
      have := h k.succ Kt'
      rwa [show m + k.succ.val = m + 1 + k.val by rw [Fin.val_succ]; omega] at this))
    isplitl [H]; · iexact H
    rw [show m + 1 + n = m + (n + 1) by omega]
    iexact Hk

/-! ## Loads and stores -/

section
variable {cs : CoreSpace} {s : Shape} {e : EltTy} (m : Memref sig .tc cs s e) (r : Rect s)

theorem run_load {hr : ∀ a, r.stride a = 1} {hl : m.view.LoadsAt r.toLoadRect} {q : PosShare TreeShare}
    {X : r.shape.Idx → Elt F e} {Kt : (r.shape.Idx → Elt F e) → sProp 𝕄} :
    (owns (c : Thread nD τ) (m.slice r hr) q X : sProp 𝕄)
      ⊢ iprop((owns (c : Thread nD τ) (m.slice r hr) q X -∗ Kt X) -∗ run c (Prog.lift (.load m r.toLoadRect hl)) Kt) := by
  unfold owns run Prog.lift
  iintro ⟨%f, %hf, H⟩ Hk
  iapply (wp_load_rect 𝒱₀ (c : Thread nD τ) none Set.univ (m := m) (r := r) subset_rfl) $$ H
  iintro H
  rw [wp_ret]; imodintro
  rw [show (m.access r).read (Elt F) f = X from hf]
  iapply Hk
  iexists f; isplitr
  · ipureintro; exact hf
  · iexact H

theorem run_store {hr : ∀ a, r.stride a = 1} {w : r.shape.Idx → Elt F e} {hx : (m.access r).Stores Finset.univ}
    {hm : Finset.univ = Finset.univ ∨ ∀ a, r.stride a = 1} {X : r.shape.Idx → Elt F e} {Kt : PUnit → sProp 𝕄} :
    (owns (c : Thread nD τ) (m.slice r hr) fullShare X : sProp 𝕄)
      ⊢ iprop((owns (c : Thread nD τ) (m.slice r hr) fullShare w -∗ Kt ⟨⟩) -∗ run c (Prog.lift (.store m r w Finset.univ hx hm)) Kt) := by
  unfold owns run Prog.lift
  iintro ⟨%f, %hf, H⟩ Hk
  iapply (wp_store 𝒱₀ (c : Thread nD τ) none Set.univ (m := m) (r := r) (w := w) (Mk := Finset.univ) (hx := hx) (hm := hm)
    (S := (m.slice r hr).view.set) subset_rfl) $$ H
  iintro H
  rw [wp_ret]; imodintro
  iapply Hk
  iexists _; isplitr
  on_goal 2 => iexact H
  ipureintro; exact View.read_write_univ _ _
end

/-! ## Local copies -/

/-- What the device still owes, with the waits it has made. -/
def owing (O : CellTallies nD τ sig Unit) : sProp 𝕄 := iprop(∃ W : Waits sig Unit, owes (c : Thread nD τ) O W)

section
variable {sp sp' : Space} {s : Shape} {e : EltTy} (src : Memref sig .tc sp s e) (dst : Memref sig .tc sp' s e)

theorem run_copy (q : DmaSem sig) {h1 : src.view.WordExact} {h2 : dst.view.WordExact}
    {h3 : DmaTarget.Typed (nD := nD) sp (.dma q) (DmaTarget.here (p := (.tc : Proc τ)) dst)} {M : ℕ}
    (hM : dst.view.dmaCredit = M) (hM0 : 0 < M) {p : PosShare TreeShare} {X : s.Idx → Elt F e} {Kt : PUnit → sProp 𝕄} :
    iprop(owns (c : Thread nD τ) src p X ∗ anyC c dst ∗ semVal ((c : Thread nD τ), .dma q) 0)
      ⊢ iprop((Transfers.Flight EC (c : Thread nD τ) (.dma q) () M iprop(owns (c : Thread nD τ) dst fullShare X ∗ owns (c : Thread nD τ) src p X) -∗ Kt ⟨⟩)
          -∗ run c (Prog.lift (.enqueueDma src (.here dst) (.dma q) h1 h2 h3)) Kt) := by
  unfold anyC run Prog.lift
  iintro ⟨Hs, ⟨%Y, Hd⟩, Hv⟩ Hk
  ihave Hs' := (show owns (c : Thread nD τ) src p X ⊢ iprop(∃ f, ⌜src.view.read (Elt F) f = X⌝ ∗ (src.view.loc (c : Thread nD τ) ↦[src.view.set]{p} f)) from .rfl) $$ Hs
  icases Hs' with ⟨%fs, %hs, Hs⟩
  ihave Hd' := (show owns (c : Thread nD τ) dst fullShare Y ⊢ iprop(∃ f, ⌜dst.view.read (Elt F) f = Y⌝ ∗ (dst.view.loc (c : Thread nD τ) ↦[dst.view.set]{fullShare} f)) from .rfl) $$ Hd
  icases Hd' with ⟨%fd, %hd, Hd⟩
  iapply (Transfers.wp_dmaLocal EC 𝒱₀ (c : Thread nD τ) none (src := src) (dst := dst) (hsrc := h1) (hdst := h2) (hsem := h3)
    (fs := fs) (fd := fd) (q := p) () M hM hM0 (Sd := dst.view.set) subset_rfl) $$ [Hs Hd Hv]
  · isplitl [Hs]; · iexact Hs
    isplitl [Hd]; · iexact Hd
    iexact Hv
  iintro Hf
  rw [wp_ret]; imodintro
  iapply Hk
  iapply (Transfers.Flight_mono EC (c : Thread nD τ) ?_) $$ Hf
  unfold owns
  iintro ⟨Hd, Hs⟩
  isplitl [Hd]
  · iexists _; isplitr
    on_goal 2 => iexact Hd
    ipureintro; rw [View.read_write_univ]; exact hs
  · iexists fs; isplitr
    · ipureintro; exact hs
    · iexact Hs
end

section
variable {sp sp' : Space} {s s' : Shape} {e e' : EltTy} {κ' : Kind}

theorem run_waitLocal {srcw : Memref sig .tc sp' s' e'} {dstw : Memref sig κ' sp s e} (q : DmaSem sig) {h1 : srcw.view.WordExact} {h2 : dstw.view.WordExact}
    {M : ℕ} (hM : dstw.view.dmaCredit = M) {D : sProp 𝕄} {O : CellTallies nD τ sig Unit} {Kt : PUnit → sProp 𝕄}
    (hO : (levAts L lv : sProp 𝕄) ⊢ MayWait (c : Thread nD τ) (.dma q) () O) :
    iprop(levAts L lv ∗ Transfers.Flight EC (c : Thread nD τ) (.dma q) () M D ∗ owing c O)
      ⊢ iprop(((D ∗ semVal ((c : Thread nD τ), .dma q) 0 ∗ owing c O) -∗ Kt ⟨⟩)
          -∗ run c (Prog.lift (.waitDma2 q srcw dstw h1 h2)) Kt) := by
  unfold owing run Prog.lift
  iintro ⟨#Hlev, Hf, ⟨%W, HO⟩⟩ Hk
  iapply (Transfers.wp_waitLocalO EC 𝒱₀ (c : Thread nD τ) none (hsrc := h1) (hdst := h2) () hM (O := O) (W := W)) $$ [Hf HO]
  · isplitl [Hf]; · iexact Hf
    isplitl [HO]; · iexact HO
    iapply hO; iexact Hlev
  iintro ⟨HD, Hv, HO⟩
  rw [wp_ret]; imodintro
  iapply Hk
  isplitl [HD]; · iexact HD
  isplitl [Hv]; · iexact Hv
  iexists _; iexact HO
end

/-! ## The staging slots -/

omit [FloatOps F] in
theorem slot_eq (s : Fin 2) (q : PosShare TreeShare) (X : Vec F S128x4096 .f32) :
    (owns (c : Thread nD τ) (slot s) q X : sProp 𝕄) = owns (c : Thread nD τ) (lvM.slice (slotR s) (fun _ => rfl)) q (unsq X) := by
  have hs : (slot s).view.set = (lvM.slice (slotR s) (fun _ => rfl)).view.set := View.set_reshape _ _
  have hr : ∀ f, (slot s).view.read (Elt F) f = shapeCast S128x4096 ((lvM.slice (slotR s) (fun _ => rfl)).view.read (Elt F) f) shapeCasts_S1x128x4096_S128x4096 :=
    fun f => rfl
  unfold owns
  rw [hs]
  refine congrArg _ (funext fun f => ?_)
  rw [hr]
  refine congrArg (fun P : Prop => iprop(⌜P⌝ ∗ _)) (propext ⟨fun h => ?_, fun h => ?_⟩)
  · rw [← h]; exact (shapeCast_shapeCast _ _ _).symm
  · rw [h]; exact shapeCast_shapeCast _ _ _

theorem run_ldRead {k : Fin 8} {q : PosShare TreeShare} {X : Vec F S128x4096 .f32} {Kt : Vec F S1x128x4096 .f32 → sProp 𝕄} :
    (owns (c : Thread nD τ) (slot (sl k)) q X : sProp 𝕄)
      ⊢ iprop((owns (c : Thread nD τ) (slot (sl k)) q X -∗ Kt (unsq X)) -∗ run c (ldRead k) Kt) := by
  rw [slot_eq]
  exact run_load c lvM (slotR (sl k))

/-! ## Transfers to a neighbour, arrivals, the barrier -/

variable (PA RE : Dev nD → Fin 8 → Vec F S128x4096 .f32) (GA : Dev nD → Vec F S1x4096 .f32)
variable (K : GSem nD τ sig → ℕ)

/-- The invariants of the barrier cells and of the arrival cells. -/
def invs : sProp 𝕄 :=
  iprop(bigSep Finset.univ (fun c : Dev nD => cellInv ER (sched PA RE GA) (K (bcell c)) (bcell c))
    ∗ bigSep Finset.univ (fun p : Dev nD × Fin 32 => cellInv ER (sched PA RE GA) (K (rcell p.1 p.2)) (rcell p.1 p.2)))
instance invs_persistent : BI.Persistent (invs (F := F) PA RE GA K) := by unfold invs; infer_instance
theorem invs_bar (c : Dev nD) : invs PA RE GA K ⊢ cellInv ER (sched (F := F) PA RE GA) (K (bcell c)) (bcell c) := by
  unfold invs; iintro ⟨H, -⟩
  iapply (show bigSep Finset.univ (fun c : Dev nD => cellInv ER (sched PA RE GA) (K (bcell c)) (bcell c))
    ⊢ cellInv ER (sched PA RE GA) (K (bcell c)) (bcell c) from bigSep_elim (Finset.mem_univ c)) $$ H
theorem invs_recv (c : Dev nD) (t : Fin 32) : invs PA RE GA K ⊢ cellInv ER (sched (F := F) PA RE GA) (K (rcell c t)) (rcell c t) := by
  unfold invs; iintro ⟨-, H⟩
  iapply (show bigSep Finset.univ (fun p : Dev nD × Fin 32 => cellInv ER (sched PA RE GA) (K (rcell p.1 p.2)) (rcell p.1 p.2))
    ⊢ cellInv ER (sched PA RE GA) (K (rcell c t)) (rcell c t) from bigSep_elim (Finset.mem_univ (c, t))) $$ H

/-- What one transfer needs of the receiver: the chunk it writes, the right to pay its arrival cell. -/
def aim (t : Fin 32) : sProp 𝕄 :=
  iprop(anyC (tgt c t) (dstC t) ∗ reached ER (rcell (tgt c t) t) 0 ∗ dutyTok ER (rcell (tgt c t) t) 0 0)

theorem run_send (t : Fin 32) {p : PosShare TreeShare} {Kt : PUnit → sProp 𝕄} :
    iprop(invs PA RE GA K ∗ owns (c : Thread nD τ) (srcC t) p (sent PA RE GA c t) ∗ aim c t ∗ semVal ((c : Thread nD τ), .dma (sS t)) 0
        ∗ owing c (owed c t.val))
      ⊢ iprop(((Transfers.Flight EC (c : Thread nD τ) (.dma (sS t)) () N (owns (c : Thread nD τ) (srcC t) p (sent PA RE GA c t))
            ∗ owing c (owed c (t.val + 1))) -∗ Kt ⟨⟩)
          -∗ run c (send c t) Kt) := by
  unfold aim anyC owing run send Prog.lift
  iintro ⟨#Hinv, Hs, ⟨⟨%Y, Hd⟩, #Hr, Htok⟩, Hv, ⟨%W, HO⟩⟩ Hk
  ihave Hs' := (show owns (c : Thread nD τ) (srcC t) p (sent PA RE GA c t) ⊢ iprop(∃ f, ⌜(srcC t).view.read (Elt F) f = sent PA RE GA c t⌝ ∗ ((srcC t).view.loc (c : Thread nD τ) ↦[(srcC t).view.set]{p} f)) from .rfl) $$ Hs
  icases Hs' with ⟨%fs, %hs, Hs⟩
  ihave Hd' := (show owns (tgt c t : Thread nD τ) (dstC t) fullShare Y ⊢ iprop(∃ f, ⌜(dstC t).view.read (Elt F) f = Y⌝ ∗ ((dstC t).view.loc (tgt c t : Thread nD τ) ↦[(dstC t).view.set]{fullShare} f)) from .rfl) $$ Hd
  icases Hd' with ⟨%fd, %hd, Hd⟩
  imod (Transfers.flight_alloc EC N_pos ((srcC t).view.loc (c : Thread nD τ) ↦[(srcC t).view.set]{p} fs)) $$ Hv with ⟨%γ, %δ, %κ, #Hfl, Hγ, Hδ⟩
  iapply (wp_enqueueDma_remote_pointsTo 𝒱₀ (c : Thread nD τ) none Set.univ
      (src := srcC t) (dst := dstC t) (sem := .dma (rS t)) (sS := .dma (sS t)) (c' := (tgt c t : Thread nD τ)) (fs := fs) (fd := fd) (q := p)
      () () (owed c (t.val + 1)) N (show (dstC t).view.amount (.dma (rS t)) = N from dstC_credit t) (owed_step c t)) $$ [Hs Hd HO] [Hγ] [Htok]
  · isplitl [Hs]; · iexact Hs
    isplitl [Hd]; · iexact Hd
    iexact HO
  · iapply (Transfers.flight_creditUpdate EC (δ := δ))
    isplitr; · iexact Hfl
    iexact Hγ
  · have hl := Rounds.land_credit (κ := K (rcell (tgt c t) t)) (g := rcell (tgt c t) t) (r := 0) (d := 0) ER (sched PA RE GA)
      (X := iprop((dstC t).view.loc (tgt c t : Thread nD τ) ↦[(dstC t).view.set]{fullShare}
        ((dstC t).view.write (Elt F) fd ((srcC t).view.read (Elt F) fs) Finset.univ)))
      (by rw [duties_recv]; exact Finset.mem_singleton_self _) (by
        rw [payload_recv]; unfold recvPay owns got
        iintro H
        iexists _; isplitr
        on_goal 2 => iexact H
        ipureintro; rw [View.read_write_univ, tgt_tgt]; exact hs)
    rw [amount_recv] at hl
    iapply hl
    isplitr; · iapply (invs_recv PA RE GA K (tgt c t) t) $$ Hinv
    isplitl [Htok]; · iexact Htok
    iexact Hr
  iintro ⟨Hc, HO⟩
  rw [wp_ret]; imodintro
  iapply Hk
  isplitl [Hδ Hc]
  · have hm : ((srcC t).view.loc (c : Thread nD τ) ↦[(srcC t).view.set]{p} fs : sProp 𝕄) ⊢ owns (c : Thread nD τ) (srcC t) p (sent PA RE GA c t) := by
      unfold owns
      iintro H
      iexists fs; isplitr
      · ipureintro; exact hs
      · iexact H
    iapply (Transfers.Flight_mono EC (c : Thread nD τ) hm)
    iapply (Transfers.flight_intro EC (c : Thread nD τ) (κ := κ))
    isplitr; · iexact Hfl
    isplitl [Hδ] <;> iassumption
  iexists W; iexact HO

theorem run_waitR (t : Fin 32) (n : ℕ) (hn : ∀ t' : Fin 32, n ≤ t'.val → lvT t < lvT t') {Kt : PUnit → sProp 𝕄} :
    iprop(invs PA RE GA K ∗ levAts L lv ∗ atPos ER (rcell c t) 0 ∅ 0 ∗ cred (tallyAt (rcell c t) () N) ∗ owing c (owed c n))
      ⊢ iprop(((owns (c : Thread nD τ) (dstC t) fullShare (got PA RE GA c t) ∗ semVal (rcell c t) 0 ∗ owing c (owed c n)) -∗ Kt ⟨⟩)
          -∗ run c (waitR t) Kt) := by
  unfold owing run waitR Prog.lift
  iintro ⟨#Hinv, #Hlev, Hat, Hc, ⟨%W, HO⟩⟩ Hk
  iapply (Rounds.wp_wait_rest_token 𝒱₀ ER (sched PA RE GA) (c : Thread nD τ) none (κ := K (rcell c t))
      (wpE_waitDma2_eq (src := srcC t) (dst := dstC t) (hsrc := srcC_exact t) (hdst := dstC_exact t) 𝒱₀ (c : Thread nD τ) none Set.univ) (Set.mem_univ _) () (O := owed c n) (W := W) (R := 0) (m := 0) (T := ∅)
      (by rw [Nat.zero_add, expect_recv])) $$ [Hc HO Hat]
  · isplitr; · iapply (invs_recv PA RE GA K c t) $$ Hinv
    isplitl [Hc]; · iexact Hc
    isplitl [HO]; · iexact HO
    isplitr; · iapply (mayWait c (.dma (rS t)) n (lvT t) (lv_recv c t ()) hn); iexact Hlev
    iexact Hat
  iintro ⟨HO, Hat, -, Hpay⟩
  ihave Hp := (Entails.of_eq (rest_recv PA RE GA c t)) $$ Hpay
  imod (Rounds.cell_close ER (sched PA RE GA) (Set.mem_univ (K (rcell c t))) (fun h => h) (R := 0 + 1) (duties_later PA RE GA (rcell c t))) $$ [Hat] with Hz
  · isplitr; · iapply (invs_recv PA RE GA K c t) $$ Hinv
    iexact Hat
  rw [wp_ret]; imodintro
  iapply Hk
  unfold recvPay
  isplitl [Hp]; · iexact Hp
  isplitl [Hz]; · iexact Hz
  iexists _; iexact HO

theorem run_signal (d : Fin 3) {Kt : PUnit → sProp 𝕄} :
    iprop(invs PA RE GA K ∗ owing c (bowed c d.val) ∗ dutyTok ER (bcell (nb d c)) 0 d ∗ barPay (nb d c) d ∗ reached ER (bcell (nb d c)) 0)
      ⊢ iprop((owing c (bowed c (d.val + 1)) -∗ Kt ⟨⟩) -∗ run c (semSignalWord (nb d c) barrier0 1#32) Kt) := by
  unfold owing run semSignalWord
  iintro ⟨#Hinv, ⟨%W, HO⟩, Htok, Hpay, #Hr⟩ Hk
  iapply (Rounds.wp_signal 𝒱₀ ER (sched PA RE GA) (c : Thread nD τ) none (dst := (nb d c : Thread nD τ)) (sem := barrier0) (κ := K (bcell (nb d c)))
      (r := 0) (d := d) (by rw [duties_bar]; exact Finset.mem_univ _) ((amount_bar PA RE GA (nb d c) d).trans (by decide)) () (bowed c (d.val + 1)) (bowed_step c d))
    $$ [HO Htok Hpay]
  · isplitr; · iapply (invs_bar PA RE GA K (nb d c)) $$ Hinv
    isplitl [HO]; · iexact HO
    isplitl [Htok]; · iexact Htok
    isplitl [Hpay]; · rw [payload_bar]; iexact Hpay
    iexact Hr
  iintro HO
  rw [wp_ret]; imodintro
  iapply Hk
  iexists W; iexact HO

theorem run_barrier {Kt : PUnit → sProp 𝕄} :
    iprop(invs PA RE GA K ∗ levAts L lv ∗ atPos ER (bcell c) 0 ∅ 0 ∗ cred (tallyAt (bcell c) () 3) ∗ owing c (owed c 0))
      ⊢ iprop(((bigSep Finset.univ (barPay c) ∗ semVal (bcell c) 0 ∗ owing c (owed c 0)) -∗ Kt ⟨⟩)
          -∗ run c (semWaitWord barrier0 3#32) Kt) := by
  unfold owing run semWaitWord
  iintro ⟨#Hinv, #Hlev, Hat, Hc, ⟨%W, HO⟩⟩ Hk
  iapply (Rounds.wp_wait_rest_token 𝒱₀ ER (sched PA RE GA) (c : Thread nD τ) none (κ := K (bcell c))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iapply (invs_bar PA RE GA K c) $$ Hinv
    isplitl [Hc]; · iexact Hc
    isplitl [HO]; · iexact HO
    isplitr
    · iapply (mayWait c (.reg barrier0) 0 1 (lv_bar c ()) (fun t _ => lvT_ge t)); iexact Hlev
    iexact Hat
  iintro ⟨HO, Hat, -, Hpay⟩
  ihave Hp := (Entails.of_eq (rest_bar PA RE GA c)) $$ Hpay
  imod (Rounds.cell_close ER (sched PA RE GA) (Set.mem_univ (K (bcell c))) (fun h => h) (R := 0 + 1) (duties_later PA RE GA (bcell c))) $$ [Hat] with Hz
  · isplitr; · iapply (invs_bar PA RE GA K c) $$ Hinv
    iexact Hat
  rw [wp_ret]; imodintro
  iapply Hk
  isplitl [Hp]; · iexact Hp
  isplitl [Hz]; · iexact Hz
  iexists _; iexact HO

/-! ## The local copies and the departures -/

/-- Credits of the local copies. -/
abbrev NL : ℕ := (slot 0).view.dmaCredit
theorem NL_pos : 0 < NL := View.dmaCredit_pos _ (by decide)
theorem slot_credit (s : Fin 2) : (slot s).view.dmaCredit = NL := by revert s; decide +kernel
abbrev NS : ℕ := (band outM ![0, 0] (by decide)).view.dmaCredit
theorem NS_pos : 0 < NS := View.dmaCredit_pos _ (by decide)
theorem stDst_credit (j : Fin 32) : (stDst c j).view.dmaCredit = NS := rfl

omit [FloatOps F] in
theorem mayWait_low (q : DmaSem sig) (hq : ∀ t, q ≠ rS t) (n : ℕ) :
    (levAts L lv : sProp 𝕄) ⊢ MayWait (c : Thread nD τ) (.dma q) () (owed c n) :=
  mayWait c (.dma q) n 0 (lv_low c q hq ()) fun t _ => by have := lvT_ge t; omega

section
variable (a : Memref sig .tc .hbm S4096x4096 .f32) (X : Fin 8 → Vec F S128x4096 .f32)
/-- Chunk `k` of an input being loaded. -/
def loading (k : Fin 8) : sProp 𝕄 :=
  Transfers.Flight EC (c : Thread nD τ) (.dma (ldS (sl k))) () NL
    iprop(owns (c : Thread nD τ) (slot (sl k)) fullShare (X k) ∗ owns (c : Thread nD τ) (ldSrc a c k) fullShare (X k))

/-- A slot that nothing is loaded to. -/
def free (s : Fin 2) : sProp 𝕄 := iprop(anyC c (slot s) ∗ semVal ((c : Thread nD τ), .dma (ldS s)) 0)

theorem run_ldStart (k : Fin 8) {Kt : PUnit → sProp 𝕄} :
    iprop(owns (c : Thread nD τ) (ldSrc a c k) fullShare (X k) ∗ free c (sl k))
      ⊢ iprop((loading c a X k -∗ Kt ⟨⟩) -∗ run c (ldStart a c k) Kt) := by
  unfold free loading ldStart
  iintro ⟨Hs, Hd, Hv⟩
  iapply (run_copy c (ldSrc a c k) (slot (sl k)) (ldS (sl k)) (slot_credit _) NL_pos)
  isplitl [Hs]; · iexact Hs
  isplitl [Hd]; · iexact Hd
  iexact Hv

theorem run_ldWait (k : Fin 8) (n : ℕ) {Kt : PUnit → sProp 𝕄} :
    iprop(levAts L lv ∗ loading c a X k ∗ owing c (owed c n))
      ⊢ iprop(((owns (c : Thread nD τ) (slot (sl k)) fullShare (X k) ∗ semVal ((c : Thread nD τ), .dma (ldS (sl k))) 0
            ∗ owns (c : Thread nD τ) (ldSrc a c k) fullShare (X k) ∗ owing c (owed c n)) -∗ Kt ⟨⟩)
          -∗ run c (ldWait a c k) Kt) := by
  unfold loading ldWait
  iintro ⟨#Hlev, Hf, HO⟩ Hk
  iapply (run_waitLocal c (ldS (sl k)) (slot_credit _) (mayWait_low c _ (ldS_ne_rS _) n)) $$ [Hf HO]
  · isplitr; · iexact Hlev
    isplitl [Hf]; · iexact Hf
    iexact HO
  iintro ⟨⟨Hd, Hs⟩, Hv, HO⟩
  iapply Hk
  isplitl [Hd]; · iexact Hd
  isplitl [Hv]; · iexact Hv
  isplitl [Hs]; · iexact Hs
  iexact HO
end

theorem run_waitS (t : Fin 32) (n : ℕ) {D : sProp 𝕄} {Kt : PUnit → sProp 𝕄} :
    iprop(levAts L lv ∗ Transfers.Flight EC (c : Thread nD τ) (.dma (sS t)) () N D ∗ owing c (owed c n))
      ⊢ iprop(((D ∗ semVal ((c : Thread nD τ), .dma (sS t)) 0 ∗ owing c (owed c n)) -∗ Kt ⟨⟩) -∗ run c (waitS t) Kt) :=
  run_waitLocal c (sS t) (srcC_credit t) (mayWait_low c _ (sS_ne_rS t) n)

/-- What store `j` brings back: the rows of the result written, the chunk it read. -/
def stored (p : PosShare TreeShare) (j : Fin 32) : sProp 𝕄 :=
  iprop(owns (c : Thread nD τ) (stDst c j) fullShare (kept PA RE GA c j) ∗ owns (c : Thread nD τ) (stSrc j) p (kept PA RE GA c j))

theorem run_stStart (p : PosShare TreeShare) (j : Fin 32) {Kt : PUnit → sProp 𝕄} :
    iprop(owns (c : Thread nD τ) (stSrc j) p (kept PA RE GA c j) ∗ anyC c (stDst c j) ∗ semVal ((c : Thread nD τ), .dma (stS j)) 0)
      ⊢ iprop((Transfers.Flight EC (c : Thread nD τ) (.dma (stS j)) () NS (stored c PA RE GA p j) -∗ Kt ⟨⟩) -∗ run c (stStart c j) Kt) :=
  run_copy c (stSrc j) (stDst c j) (stS j) (stDst_credit c j) NS_pos

theorem run_stWait (j : Fin 32) (n : ℕ) {D : sProp 𝕄} {Kt : PUnit → sProp 𝕄} :
    iprop(levAts L lv ∗ Transfers.Flight EC (c : Thread nD τ) (.dma (stS j)) () NS D ∗ owing c (owed c n))
      ⊢ iprop(((D ∗ semVal ((c : Thread nD τ), .dma (stS j)) 0 ∗ owing c (owed c n)) -∗ Kt ⟨⟩) -∗ run c (stWait c j) Kt) :=
  run_waitLocal c (stS j) (stDst_credit c j) (mayWait_low c _ (stS_ne_rS j) n)

end Cert.KernelIdeal.RS

end
-- ==== Proof.StateIdeal.lean ====
/- The state of a device during the body, as families over the chunks, the transfers and the stores, and how each
   operation changes them. -/
module

public import proofs.«01_k».proof.Proof.StepsIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (PA RE : Dev nD → Fin 8 → Vec F S128x4096 .f32) (GA : Dev nD → Vec F S1x4096 .f32)
variable (K : GSem nD τ sig → ℕ)

omit [FloatOps F] in
/-- One member of a family changed from `P` to `Q`. -/
theorem fam_upd {ι : Type} [Fintype ι] [DecidableEq ι] (i : ι) {f g : ι → sProp 𝕄} {P Q : sProp 𝕄} (hf : f i = P) (hg : g i = Q)
    (h : ∀ j, j ≠ i → f j = g j) : bigSep Finset.univ f ⊢ iprop(P ∗ (Q -∗ bigSep Finset.univ g)) := by
  subst hf hg; exact bigSep_upd i h

/-- The facts that stay. -/
def ctx : sProp 𝕄 := iprop(invs PA RE GA K ∗ levAts L lv)
instance ctx_persistent : BI.Persistent (ctx (F := F) PA RE GA K) := by unfold ctx; infer_instance

/-! ## The inputs' chunks: those from `i` to `j` being loaded -/

section
variable (a : Memref sig .tc .hbm S4096x4096 .f32) (X : Fin 8 → Vec F S128x4096 .f32)

def ldFam (i j : ℕ) (k : Fin 8) : sProp 𝕄 :=
  if i ≤ k.val ∧ k.val < j then loading c a X k else owns (c : Thread nD τ) (ldSrc a c k) fullShare (X k)
def loads (i j : ℕ) : sProp 𝕄 := bigSep Finset.univ (ldFam c a X i j)

theorem loads_start (i : ℕ) (k : Fin 8) (h : i ≤ k.val) :
    loads c a X i k.val ⊢ iprop(owns (c : Thread nD τ) (ldSrc a c k) fullShare (X k) ∗ (loading c a X k -∗ loads c a X i (k.val + 1))) :=
  fam_upd k (if_neg (by omega)) (if_pos (by omega)) fun k' hk => by
    have := Fin.val_ne_of_ne hk
    exact if_congr (by omega) rfl rfl
theorem loads_end (j : ℕ) (k : Fin 8) (h : k.val < j) :
    loads c a X k.val j ⊢ iprop(loading c a X k ∗ (owns (c : Thread nD τ) (ldSrc a c k) fullShare (X k) -∗ loads c a X (k.val + 1) j)) :=
  fam_upd k (if_pos (by omega)) (if_neg (by omega)) fun k' hk => by
    have := Fin.val_ne_of_ne hk
    exact if_congr (by omega) rfl rfl

theorem ldStart_step (i : ℕ) (k : Fin 8) (h : i ≤ k.val) {Kt : PUnit → sProp 𝕄} :
    iprop(loads c a X i k.val ∗ free c (sl k)) ⊢ iprop((loads c a X i (k.val + 1) -∗ Kt ⟨⟩) -∗ run c (ldStart a c k) Kt) := by
  iintro ⟨HL, Hf⟩ Hk
  ihave H := (loads_start c a X i k h) $$ HL
  icases H with ⟨Hs, Hb⟩
  iapply (run_ldStart c a X k) $$ [Hs Hf]
  · isplitl [Hs]; · iexact Hs
    iexact Hf
  iintro Hl
  iapply Hk
  iapply Hb; iexact Hl

theorem ldWait_step (j : ℕ) (k : Fin 8) (h : k.val < j) (n : ℕ) {Kt : PUnit → sProp 𝕄} :
    iprop(levAts L lv ∗ loads c a X k.val j ∗ owing c (owed c n))
      ⊢ iprop(((owns (c : Thread nD τ) (slot (sl k)) fullShare (X k) ∗ semVal ((c : Thread nD τ), .dma (ldS (sl k))) 0
            ∗ loads c a X (k.val + 1) j ∗ owing c (owed c n)) -∗ Kt ⟨⟩)
          -∗ run c (ldWait a c k) Kt) := by
  iintro ⟨#Hlev, HL, HO⟩ Hk
  ihave H := (loads_end c a X j k h) $$ HL
  icases H with ⟨Hl, Hb⟩
  iapply (run_ldWait c a X k n) $$ [Hl HO]
  · isplitr; · iexact Hlev
    isplitl [Hl]; · iexact Hl
    iexact HO
  iintro ⟨Hd, Hv, Hs, HO⟩
  iapply Hk
  isplitl [Hd]; · iexact Hd
  isplitl [Hv]; · iexact Hv
  isplitl [Hb Hs]; · iapply Hb; iexact Hs
  iexact HO
end

/-! ## The arrivals, in the order they are waited for -/

/-- The position of arrival `t` in the order of the waits. -/
def rkR (t : Fin 32) : ℕ :=
  if t.val < 8 then t.val
  else if t.val < 16 then (if t.val % 2 = 1 then 8 + (t.val - 9) / 2 else 20 + (t.val - 8) / 2)
  else if t.val < 24 then (if t.val % 2 = 0 then 12 + (t.val - 16) / 2 else 16 + (t.val - 17) / 2)
  else t.val
theorem rkR_inj : ∀ t t' : Fin 32, rkR t = rkR t' → t = t' := by decide +kernel

def arrFam (n : ℕ) (t : Fin 32) : sProp 𝕄 :=
  if rkR t < n then semVal (rcell c t) 0 else iprop(atPos ER (rcell c t) 0 ∅ 0 ∗ cred (tallyAt (rcell c t) () N))
def arrs (n : ℕ) : sProp 𝕄 := bigSep Finset.univ (arrFam (F := F) c n)

theorem waitR_step (t : Fin 32) (r n : ℕ) (hr : rkR t = r) (hn : ∀ t' : Fin 32, n ≤ t'.val → lvT t < lvT t') {Kt : PUnit → sProp 𝕄} :
    iprop(ctx PA RE GA K ∗ arrs c r ∗ owing c (owed c n))
      ⊢ iprop(((owns (c : Thread nD τ) (dstC t) fullShare (got PA RE GA c t) ∗ arrs c (r + 1) ∗ owing c (owed c n)) -∗ Kt ⟨⟩)
          -∗ run c (waitR t) Kt) := by
  unfold ctx
  iintro ⟨⟨#Hinv, #Hlev⟩, HA, HO⟩ Hk
  ihave H := (show arrs c r ⊢ iprop((atPos ER (rcell c t) 0 ∅ 0 ∗ cred (tallyAt (rcell c t) () N)) ∗ (semVal (rcell c t) 0 -∗ arrs (F := F) c (r + 1))) from
    fam_upd t (if_neg (by omega)) (if_pos (by omega)) fun t' ht => by
      have : rkR t' ≠ rkR t := fun e => ht (rkR_inj _ _ e)
      exact if_congr (by omega) rfl rfl) $$ HA
  icases H with ⟨⟨Hat, Hc⟩, Hb⟩
  iapply (run_waitR c PA RE GA K t n hn) $$ [Hat Hc HO]
  · isplitr; · iexact Hinv
    isplitr; · iexact Hlev
    isplitl [Hat]; · iexact Hat
    isplitl [Hc]; · iexact Hc
    iexact HO
  iintro ⟨Hd, Hz, HO⟩
  iapply Hk
  isplitl [Hd]; · iexact Hd
  isplitl [Hb Hz]; · iapply Hb; iexact Hz
  iexact HO

/-! ## The departures: the first `n` started, those of position below `w` waited for -/

/-- The position of departure `t` in the order of the waits. -/
def rkS (t : Fin 32) : ℕ :=
  if t.val < 8 then t.val
  else if t.val < 24 then (if t.val % 2 = 0 then 8 else 16) + (t.val - 8) / 2
  else t.val
theorem rkS_inj : ∀ t t' : Fin 32, rkS t = rkS t' → t = t' := by decide +kernel
/-- The share of its chunk that transfer `t` reads. -/
def shT (t : Fin 32) : PosShare TreeShare :=
  if t.val < 8 then fullShare.left else if t.val < 24 then (if t.val % 2 = 0 then fullShare.left else fullShare.right.left)
  else fullShare.left

def depTodo (t : Fin 32) : sProp 𝕄 := iprop(aim c t ∗ semVal ((c : Thread nD τ), .dma (sS t)) 0)
def depFly (t : Fin 32) : sProp 𝕄 :=
  Transfers.Flight EC (c : Thread nD τ) (.dma (sS t)) () N (owns (c : Thread nD τ) (srcC t) (shT t) (sent PA RE GA c t))
def depDone (t : Fin 32) : sProp 𝕄 :=
  iprop(semVal ((c : Thread nD τ), .dma (sS t)) 0
    ∗ (if t.val < 8 then iprop(emp) else owns (c : Thread nD τ) (srcC t) (shT t) (sent PA RE GA c t)))
def depFam (n w : ℕ) (t : Fin 32) : sProp 𝕄 :=
  if rkS t < w then depDone c PA RE GA t else if t.val < n then depFly c PA RE GA t else depTodo c t
def deps (n w : ℕ) : sProp 𝕄 := bigSep Finset.univ (depFam c PA RE GA n w)

theorem send_step (t : Fin 32) (n w : ℕ) (ht : t.val = n) (hw : w ≤ rkS t) {Kt : PUnit → sProp 𝕄} :
    iprop(ctx PA RE GA K ∗ owns (c : Thread nD τ) (srcC t) (shT t) (sent PA RE GA c t) ∗ deps c PA RE GA n w ∗ owing c (owed c n))
      ⊢ iprop(((deps c PA RE GA (n + 1) w ∗ owing c (owed c (n + 1))) -∗ Kt ⟨⟩) -∗ run c (send c t) Kt) := by
  subst ht
  unfold ctx
  iintro ⟨⟨#Hinv, #Hlev⟩, Hs, HD, HO⟩ Hk
  ihave H := (show deps c PA RE GA t.val w ⊢ iprop(depTodo c t ∗ (depFly c PA RE GA t -∗ deps c PA RE GA (t.val + 1) w)) from
    fam_upd t ((if_neg (by omega)).trans (if_neg (by omega))) ((if_neg (by omega)).trans (if_pos (by omega))) fun t' h => by
      have := Fin.val_ne_of_ne h
      exact if_congr Iff.rfl rfl (if_congr (by omega) rfl rfl)) $$ HD
  icases H with ⟨HT, Hb⟩
  unfold depTodo depFly
  icases HT with ⟨Ha, Hv⟩
  iapply (run_send c PA RE GA K t) $$ [Hs Ha Hv HO]
  · isplitr; · iexact Hinv
    isplitl [Hs]; · iexact Hs
    isplitl [Ha]; · iexact Ha
    isplitl [Hv]; · iexact Hv
    iexact HO
  iintro ⟨Hf, HO⟩
  iapply Hk
  isplitl [Hf Hb]; · iapply Hb; iexact Hf
  iexact HO

/-- A departure waited for, its chunk handed back. -/
theorem waitS_step (t : Fin 32) (n w : ℕ) (ht : t.val < n) (hw : rkS t = w) {Kt : PUnit → sProp 𝕄} :
    iprop(ctx PA RE GA K ∗ deps c PA RE GA n w ∗ owing c (owed c n))
      ⊢ iprop(((owns (c : Thread nD τ) (srcC t) (shT t) (sent PA RE GA c t)
            ∗ ((if t.val < 8 then iprop(emp) else owns (c : Thread nD τ) (srcC t) (shT t) (sent PA RE GA c t)) -∗ deps c PA RE GA n (w + 1))
            ∗ owing c (owed c n)) -∗ Kt ⟨⟩)
          -∗ run c (waitS t) Kt) := by
  unfold ctx
  iintro ⟨⟨#Hinv, #Hlev⟩, HD, HO⟩ Hk
  ihave H := (show deps c PA RE GA n w ⊢ iprop(depFly c PA RE GA t ∗ (depDone c PA RE GA t -∗ deps c PA RE GA n (w + 1))) from
    fam_upd t ((if_neg (by omega)).trans (if_pos (by omega))) (if_pos (by omega)) fun t' h => by
      have : rkS t' ≠ rkS t := fun e => h (rkS_inj _ _ e)
      exact if_congr (by omega) rfl rfl) $$ HD
  icases H with ⟨Hf, Hb⟩
  unfold depDone depFly
  iapply (run_waitS c t n) $$ [Hf HO]
  · isplitr; · iexact Hlev
    isplitl [Hf]; · iexact Hf
    iexact HO
  iintro ⟨Hs, Hv, HO⟩
  iapply Hk
  isplitl [Hs]; · iexact Hs
  isplitl [Hb Hv]
  · iintro Hs
    iapply Hb
    isplitl [Hv]; · iexact Hv
    iexact Hs
  iexact HO

/-- One of the last waits: the chunk stays with the family. -/
theorem waitS_last (t : Fin 32) (n w : ℕ) (ht : t.val < n) (hw : rkS t = w) (h8 : 8 ≤ t.val) {Kt : PUnit → sProp 𝕄} :
    iprop(ctx PA RE GA K ∗ deps c PA RE GA n w ∗ owing c (owed c n))
      ⊢ iprop(((deps c PA RE GA n (w + 1) ∗ owing c (owed c n)) -∗ Kt ⟨⟩) -∗ run c (waitS t) Kt) := by
  iintro H Hk
  iapply (waitS_step c PA RE GA K t n w ht hw) $$ H
  iintro ⟨Hs, Hb, HO⟩
  iapply Hk
  rw [if_neg (by omega)]
  isplitl [Hb Hs]; · iapply Hb; iexact Hs
  iexact HO

/-! ## The stores: the first `n` started, each waited for four stores later -/

/-- The share of its chunk that store `j` reads. -/
def shS (j : Fin 32) : PosShare TreeShare :=
  if j.val < 8 then fullShare.right.right else if j.val < 16 then fullShare.right else fullShare

def stTodo (j : Fin 32) : sProp 𝕄 :=
  iprop(anyC c (stDst c j) ∗ (if j.val < 4 then semVal ((c : Thread nD τ), .dma (stS j)) 0 else iprop(emp)))
def stFly (j : Fin 32) : sProp 𝕄 :=
  Transfers.Flight EC (c : Thread nD τ) (.dma (stS j)) () NS (stored c PA RE GA (shS j) j)
def stDone (j : Fin 32) : sProp 𝕄 :=
  iprop(stored c PA RE GA (shS j) j ∗ (if 28 ≤ j.val then semVal ((c : Thread nD τ), .dma (stS j)) 0 else iprop(emp)))
def stFam (n : ℕ) (j : Fin 32) : sProp 𝕄 :=
  if j.val + 4 < n then stDone c PA RE GA j else if j.val < n then stFly c PA RE GA j else stTodo c j
def stores (n : ℕ) : sProp 𝕄 := bigSep Finset.univ (stFam c PA RE GA n)

theorem stWait_last (j : Fin 32) (n : ℕ) (hn : j.val + 4 = n) (hj : 28 ≤ j.val) (o : ℕ) {Kt : PUnit → sProp 𝕄} :
    iprop(ctx PA RE GA K ∗ stores c PA RE GA n ∗ owing c (owed c o))
      ⊢ iprop(((stores c PA RE GA (n + 1) ∗ owing c (owed c o)) -∗ Kt ⟨⟩) -∗ run c (stWait c j) Kt) := by
  subst hn
  unfold ctx
  iintro ⟨⟨#Hinv, #Hlev⟩, HS, HO⟩ Hk
  ihave H := (show stores c PA RE GA (j.val + 4) ⊢ iprop(stFly c PA RE GA j ∗ (stDone c PA RE GA j -∗ stores c PA RE GA (j.val + 4 + 1))) from
    fam_upd j ((if_neg (by omega)).trans (if_pos (by omega))) (if_pos (by omega)) fun j' h => by
      have := Fin.val_ne_of_ne h
      exact if_congr (by omega) rfl (if_congr (by omega) rfl rfl)) $$ HS
  icases H with ⟨Hf, Hb⟩
  unfold stFly stDone
  rw [if_pos hj]
  iapply (run_stWait c j o) $$ [Hf HO]
  · isplitr; · iexact Hlev
    isplitl [Hf]; · iexact Hf
    iexact HO
  iintro ⟨Hs, Hv, HO⟩
  iapply Hk
  isplitl [Hs Hv Hb]
  · iapply Hb
    isplitl [Hs]; · iexact Hs
    iexact Hv
  iexact HO

theorem stS_back (j : Fin 32) (h : 4 ≤ j.val) : stS (⟨j.val - 4, by omega⟩ : Fin 32) = stS j := by
  unfold stS; simp only; rw [show (j.val - 4) % 4 = j.val % 4 by omega]

theorem emit_step (j : Fin 32) (n o : ℕ) (hn : j.val = n) {Kt : PUnit → sProp 𝕄} :
    iprop(ctx PA RE GA K ∗ owns (c : Thread nD τ) (stSrc j) (shS j) (kept PA RE GA c j) ∗ stores c PA RE GA n ∗ owing c (owed c o))
      ⊢ iprop(((stores c PA RE GA (n + 1) ∗ owing c (owed c o)) -∗ Kt ⟨⟩) -∗ run c (emit c j) Kt) := by
  subst hn
  unfold ctx
  iintro ⟨⟨#Hinv, #Hlev⟩, Hs, HS, HO⟩ Hk
  by_cases h4 : 4 ≤ j.val
  · unfold emit run
    rw [if_pos h4, wp_bind]
    let i : Fin 32 := ⟨j.val - 4, by omega⟩
    let mid : Fin 32 → sProp 𝕄 := fun j' => if j' = i then stDone c PA RE GA i else stFam c PA RE GA j.val j'
    have hi : ¬ 28 ≤ i.val := by show ¬ 28 ≤ j.val - 4; omega
    ihave H := (show stores c PA RE GA j.val ⊢ iprop(stFly c PA RE GA i ∗ (stDone c PA RE GA i -∗ bigSep Finset.univ mid)) from
      fam_upd i ((if_neg (by show ¬ j.val - 4 + 4 < j.val; omega)).trans (if_pos (by show j.val - 4 < j.val; omega))) (if_pos rfl)
        fun j' h => (if_neg h).symm) $$ HS
    icases H with ⟨Hf, Hb⟩
    unfold stFly stDone
    rw [if_neg hi]
    iapply (run_stWait c i o) $$ [Hf HO]
    · isplitr; · iexact Hlev
      isplitl [Hf]; · iexact Hf
      iexact HO
    iintro ⟨Hd, Hv, HO⟩
    ihave HM := Hb $$ [Hd]
    · isplitl [Hd]; · iexact Hd
      iempintro
    ihave H := (show bigSep Finset.univ mid ⊢ iprop(stTodo c j ∗ (stFly c PA RE GA j -∗ stores c PA RE GA (j.val + 1))) from
      fam_upd j ((if_neg (by rw [Fin.ext_iff]; show ¬ j.val = j.val - 4; omega)).trans ((if_neg (by omega)).trans (if_neg (by omega))))
        ((if_neg (by omega)).trans (if_pos (by omega))) fun j' h => by
          have := Fin.val_ne_of_ne h
          by_cases e : j' = i
          · subst e
            exact (if_pos rfl).trans (if_pos (by show j.val - 4 + 4 < j.val + 1; omega)).symm
          · have : j'.val ≠ j.val - 4 := fun e' => e (Fin.ext e')
            exact (if_neg e).trans (if_congr (by omega) rfl (if_congr (by omega) rfl rfl))) $$ HM
    icases H with ⟨HT, Hb⟩
    unfold stTodo stFly
    icases HT with ⟨Ha, -⟩
    iapply (run_stStart c PA RE GA (shS j) j) $$ [Hs Ha Hv]
    · isplitl [Hs]; · iexact Hs
      isplitl [Ha]; · iexact Ha
      rw [← stS_back j h4]; iexact Hv
    iintro Hf
    iapply Hk
    isplitl [Hf Hb]; · iapply Hb; iexact Hf
    iexact HO
  · unfold emit
    rw [if_neg h4]
    ihave H := (show stores c PA RE GA j.val ⊢ iprop(stTodo c j ∗ (stFly c PA RE GA j -∗ stores c PA RE GA (j.val + 1))) from
      fam_upd j ((if_neg (by omega)).trans (if_neg (by omega))) ((if_neg (by omega)).trans (if_pos (by omega))) fun j' h => by
          have := Fin.val_ne_of_ne h
          exact if_congr (by omega) rfl (if_congr (by omega) rfl rfl)) $$ HS
    icases H with ⟨HT, Hb⟩
    unfold stTodo stFly
    rw [if_pos (by omega)]
    icases HT with ⟨Ha, Hv⟩
    iapply (run_stStart c PA RE GA (shS j) j) $$ [Hs Ha Hv]
    · isplitl [Hs]; · iexact Hs
      isplitl [Ha]; · iexact Ha
      iexact Hv
    iintro Hf
    iapply Hk
    isplitl [Hf Hb]; · iapply Hb; iexact Hf
    iexact HO

end Cert.KernelIdeal.RS

end
-- ==== Proof.BodyIdeal.lean ====
/- The body at one device: the greeting, the two chunk loops, the forwarding, the last waits. -/
module

public import proofs.«01_k».proof.Proof.StateIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (PA RE : Dev nD → Fin 8 → Vec F S128x4096 .f32) (GA : Dev nD → Vec F S1x4096 .f32)
variable (K : GSem nD τ sig → ℕ)

/-! ## The greeting -/

omit [FloatOps F] in
theorem bigSep_three (f : Fin 3 → sProp 𝕄) : bigSep Finset.univ f = iprop(f 0 ∗ f 1 ∗ f 2) := by
  rw [show (Finset.univ : Finset (Fin 3)) = {0, 1, 2} by decide, bigSep_insert (by decide), bigSep_insert (by decide), bigSep_singleton]; rfl

/-- What a device holds of the cells and the chunks before it greets. -/
def before : sProp 𝕄 :=
  iprop((bigSep Finset.univ fun t : Fin 32 => iprop(anyC c (dstC t) ∗ reached ER (rcell c t) 0))
    ∗ (bigSep Finset.univ fun d : Fin 3 => iprop(dutyTok ER (bcell (nb d c)) 0 d ∗ reached ER (bcell (nb d c)) 0))
    ∗ (bigSep Finset.univ fun t : Fin 32 => iprop(dutyTok ER (rcell (tgt c t) t) 0 0 ∗ semVal ((c : Thread nD τ), .dma (sS t)) 0))
    ∗ atPos ER (bcell c) 0 ∅ 0 ∗ cred (tallyAt (bcell c) () 3))

omit [FloatOps F] in
/-- A device's own chunks, sorted by the neighbour that writes them. -/
theorem own_sorted : (bigSep Finset.univ fun t : Fin 32 => iprop(anyC (F := F) c (dstC t) ∗ reached ER (rcell c t) 0))
    = bigSep Finset.univ fun d : Fin 3 => barPay (nb d c) d := by
  unfold barPay
  rw [bigSep_univ_comm]
  refine bigSep_congr fun t _ => ?_
  rw [bigSep_one (dir t) fun d h => if_neg fun e => h e.symm, if_pos rfl,
    show tgt (nb (dir t) c) t = c by rw [tgt_eq, nb_nb]]

omit [FloatOps F] in
/-- What the three neighbours hand over, transfer by transfer. -/
theorem theirs_sorted : bigSep Finset.univ (barPay (F := F) c)
    = bigSep Finset.univ fun t : Fin 32 => iprop(anyC (F := F) (tgt c t) (dstC t) ∗ reached ER (rcell (tgt c t) t) 0) := by
  unfold barPay
  rw [bigSep_univ_comm]
  refine bigSep_congr fun t _ => ?_
  rw [bigSep_one (dir t) fun d h => if_neg fun e => h e.symm, if_pos rfl]

theorem deps_start : iprop(bigSep Finset.univ (barPay c)
      ∗ bigSep Finset.univ fun t : Fin 32 => iprop(dutyTok ER (rcell (tgt c t) t) 0 0 ∗ semVal ((c : Thread nD τ), .dma (sS t)) 0))
    ⊢ deps (F := F) c PA RE GA 0 0 := by
  rw [theirs_sorted]
  unfold deps
  rw [bigSep_congr (s := Finset.univ) (Φ := depFam c PA RE GA 0 0) (Ψ := depTodo c) fun t _ => (if_neg (by omega)).trans (if_neg (by omega))]
  refine (Entails.of_eq (bigSep_sep _ _ _).symm).trans (bigSep_mono fun t _ => ?_)
  show iprop((anyC (tgt c t) (dstC t) ∗ reached ER (rcell (tgt c t) t) 0)
    ∗ dutyTok ER (rcell (tgt c t) t) 0 0 ∗ semVal ((c : Thread nD τ), .dma (sS t)) 0) ⊢ depTodo c t
  unfold depTodo aim
  iintro ⟨⟨Ha, Hr⟩, Ht, Hv⟩
  isplitr [Hv]
  · isplitl [Ha]; · iexact Ha
    isplitl [Hr]; · iexact Hr
    iexact Ht
  iexact Hv

theorem run_hello {Kt : PUnit → sProp 𝕄} :
    iprop(ctx PA RE GA K ∗ before c ∗ owing c (bowed c 0))
      ⊢ iprop(((deps c PA RE GA 0 0 ∗ semVal (bcell c) 0 ∗ owing c (owed c 0)) -∗ Kt ⟨⟩) -∗ run c (hello c) Kt) := by
  unfold before
  rw [own_sorted]
  unfold ctx hello run
  rw [wp_bind, bigSep_three, bigSep_three]
  iintro ⟨⟨#Hinv, #Hlev⟩, ⟨⟨Hp0, Hp1, Hp2⟩, ⟨⟨Ht0, #Hr0⟩, ⟨Ht1, #Hr1⟩, ⟨Ht2, #Hr2⟩⟩, HT, Hat, Hc⟩, HO⟩ Hk
  iapply (run_signal c PA RE GA K 0) $$ [HO Ht0 Hp0]
  · isplitr; · iexact Hinv
    isplitl [HO]; · iexact HO
    isplitl [Ht0]; · iexact Ht0
    isplitl [Hp0]; · iexact Hp0
    iexact Hr0
  iintro HO
  rw [wp_bind]
  iapply (run_signal c PA RE GA K 1) $$ [HO Ht1 Hp1]
  · isplitr; · iexact Hinv
    isplitl [HO]; · iexact HO
    isplitl [Ht1]; · iexact Ht1
    isplitl [Hp1]; · iexact Hp1
    iexact Hr1
  iintro HO
  rw [wp_bind]
  iapply (run_signal c PA RE GA K 2) $$ [HO Ht2 Hp2]
  · isplitr; · iexact Hinv
    isplitl [HO]; · iexact HO
    isplitl [Ht2]; · iexact Ht2
    isplitl [Hp2]; · iexact Hp2
    iexact Hr2
  iintro HO
  rw [show (2 : Fin 3).val + 1 = 3 from rfl, bowed_done]
  iapply (run_barrier c PA RE GA K) $$ [Hat Hc HO]
  · isplitr; · iexact Hinv
    isplitr; · iexact Hlev
    isplitl [Hat]; · iexact Hat
    isplitl [Hc]; · iexact Hc
    iexact HO
  iintro ⟨Hpay, Hz, HO⟩
  iapply Hk
  isplitl [Hpay HT]
  · iapply (deps_start c PA RE GA)
    isplitl [Hpay]; · iexact Hpay
    iexact HT
  isplitl [Hz]; · iexact Hz
  iexact HO

/-- The transfers of chunk `k` along x, y and z. -/
abbrev tX (k : Fin 8) : Fin 32 := ⟨k.val, by omega⟩
abbrev tY (k : Fin 8) : Fin 32 := ⟨8 + 2 * k.val, by omega⟩
abbrev tZ (k : Fin 8) : Fin 32 := ⟨9 + 2 * k.val, by omega⟩

/-! ## The first loop: the raw chunks along x -/

/-- The slot that is free while chunk `k` is loaded. -/
abbrev slN (k : ℕ) : Fin 2 := ⟨k % 2, Nat.mod_lt _ (by decide)⟩

/-- The chunks of the send buffer in the first loop: those below `k` hold the rounded partial product, at the half
    that is not being sent. -/
def raws (k : ℕ) : sProp 𝕄 := bigSep Finset.univ fun i : Fin 8 =>
  if i.val < k then owns (c : Thread nD τ) (rows sendM i) fullShare.right (raw PA c i) else anyC c (rows sendM i)

theorem raws_step (k : Fin 8) : raws c PA k.val
    ⊢ iprop(anyC c (rows sendM k) ∗ (owns (c : Thread nD τ) (rows sendM k) fullShare.right (raw PA c k) -∗ raws c PA (k.val + 1))) :=
  fam_upd k (if_neg (by omega)) (if_pos (by omega)) fun i h => by
    have := Fin.val_ne_of_ne h
    exact if_congr (by omega) rfl rfl

/-- The transfer along x of chunk `k` reads that chunk of the send buffer. -/
theorem srcC_x (k : Fin 8) : srcC (tX k) = rows sendM k := by fin_cases k <;> rfl
theorem sent_x (k : Fin 8) : sent PA RE GA c (tX k) = raw PA c k := by fin_cases k <;> rfl
theorem shT_x (k : Fin 8) : shT (tX k) = fullShare.left := if_pos (by show k.val < 8; omega)

theorem owns_x (k : Fin 8) : (owns (c : Thread nD τ) (srcC (tX k)) (shT (tX k)) (sent PA RE GA c (tX k)) : sProp 𝕄)
    = owns (c : Thread nD τ) (rows sendM k) fullShare.left (raw PA c k) := by
  rw [sent_x, shT_x, srcC_x]

theorem run_give (k : Fin 8) (j : ℕ) (hj : k.val < j) {Kt : PUnit → sProp 𝕄} :
    iprop(ctx PA RE GA K ∗ loads c paM (PA c) k.val j ∗ raws c PA k.val ∗ deps c PA RE GA k.val 0 ∗ owing c (owed c k.val))
      ⊢ iprop(((free c (sl k) ∗ loads c paM (PA c) (k.val + 1) j ∗ raws c PA (k.val + 1) ∗ deps c PA RE GA (k.val + 1) 0
            ∗ owing c (owed c (k.val + 1))) -∗ Kt ⟨⟩)
          -∗ run c (give c k) Kt) := by
  unfold give run
  rw [wp_bind]
  iintro ⟨#Hctx, HL, HR, HD, HO⟩ Hk
  iapply (ldWait_step c paM (PA c) j k hj k.val) $$ [HL HO]
  · isplitr; · unfold ctx; icases Hctx with ⟨-, #Hlev⟩; iexact Hlev
    isplitl [HL]; · iexact HL
    iexact HO
  iintro ⟨Hsl, Hv, HL, HO⟩
  rw [wp_bind]
  iapply (run_ldRead c) $$ Hsl
  iintro Hsl
  rw [wp_bind]
  ihave H := (raws_step c PA k) $$ HR
  icases H with ⟨Hs, Hb⟩
  unfold anyC
  icases Hs with ⟨%Y, Hs⟩
  iapply (run_load c sendM (rowsR k)) $$ Hs
  iintro Hs
  rw [wp_bind]
  iapply (run_store c sendM (rowsR k)) $$ Hs
  iintro Hs
  ihave H := (owns_halve c _ fullShare _) $$ Hs
  icases H with ⟨Hs1, Hs2⟩
  iapply (send_step c PA RE GA K (tX k) k.val 0 rfl (Nat.zero_le _)) $$ [Hs1 HD HO]
  · isplitr; · iexact Hctx
    isplitl [Hs1]; · rw [owns_x]; iexact Hs1
    isplitl [HD]; · iexact HD
    iexact HO
  iintro ⟨HD, HO⟩
  iapply Hk
  isplitl [Hsl Hv]
  · unfold free
    isplitl [Hsl]
    · iapply (anyC_intro c); iexact Hsl
    iexact Hv
  isplitl [HL]; · iexact HL
  isplitl [Hb Hs2]; · iapply Hb; iexact Hs2
  isplitl [HD]; · iexact HD
  iexact HO

/-- The state at the head of the first loop. -/
def inv1 (k : ℕ) : sProp 𝕄 :=
  iprop(ctx PA RE GA K ∗ loads c paM (PA c) k (k + 1) ∗ free c (slN (k + 1)) ∗ raws c PA k ∗ deps c PA RE GA k 0 ∗ owing c (owed c k))

theorem sl_succ (k : Fin 7) : sl k.succ = slN (k.val + 1) := rfl
theorem sl_cast (k : Fin 7) : sl k.castSucc = slN (k.val + 1 + 1) := by
  unfold sl slN; apply Fin.ext; show k.val % 2 = (k.val + 1 + 1) % 2; omega

theorem run_phase1 {Kt : PUnit → sProp 𝕄} :
    iprop(ctx PA RE GA K ∗ loads c paM (PA c) 0 0 ∗ free c 0 ∗ free c 1 ∗ raws c PA 0 ∗ deps c PA RE GA 0 0 ∗ owing c (owed c 0))
      ⊢ iprop(((loads c paM (PA c) 8 8 ∗ free c 0 ∗ free c 1 ∗ raws c PA 8 ∗ deps c PA RE GA 8 0 ∗ owing c (owed c 8)) -∗ Kt ⟨⟩)
          -∗ run c (phase1 c) Kt) := by
  unfold phase1 run
  rw [wp_bind]
  iintro ⟨#Hctx, HL, Hf0, Hf1, HR, HD, HO⟩ Hk
  iapply (ldStart_step c paM (PA c) 0 0 (Nat.zero_le _)) $$ [HL Hf0]
  · isplitl [HL]; · iexact HL
    iexact Hf0
  iintro HL
  rw [wp_bind]
  iapply (run_times c (inv1 c PA RE GA K) 7 _ 0 _ ?_)
  rotate_left
  · isplitr [Hk]
    · unfold inv1
      isplitr; · iexact Hctx
      isplitl [HL]; · iexact HL
      isplitl [Hf1]; · iexact Hf1
      isplitl [HR]; · iexact HR
      isplitl [HD]; · iexact HD
      iexact HO
    unfold inv1
    iintro ⟨-, HL, Hf, HR, HD, HO⟩
    iapply (run_give c PA RE GA K 7 8 (by decide)) $$ [HL HR HD HO]
    · isplitr; · iexact Hctx
      isplitl [HL]; · iexact HL
      isplitl [HR]; · iexact HR
      isplitl [HD]; · iexact HD
      iexact HO
    iintro ⟨Hf', HL, HR, HD, HO⟩
    iapply Hk
    isplitl [HL]; · iexact HL
    isplitl [Hf]; · iexact Hf
    isplitl [Hf']; · iexact Hf'
    isplitl [HR]; · iexact HR
    isplitl [HD]; · iexact HD
    iexact HO
  intro k Kt'
  rw [Nat.zero_add]
  unfold inv1 run
  rw [wp_bind, ← sl_succ, ← sl_cast]
  iintro ⟨⟨#Hctx, HL, Hf, HR, HD, HO⟩, Hk⟩
  iapply (ldStart_step c paM (PA c) k.val k.succ (by rw [Fin.val_succ]; omega)) $$ [HL Hf]
  · isplitl [HL]; · iexact HL
    iexact Hf
  iintro HL
  iapply (run_give c PA RE GA K k.castSucc (k.val + 1 + 1) (by show k.val < _; omega)) $$ [HL HR HD HO]
  · isplitr; · iexact Hctx
    isplitl [HL]; · iexact HL
    isplitl [HR]; · iexact HR
    isplitl [HD]; · iexact HD
    iexact HO
  iintro ⟨Hf', HL, HR, HD, HO⟩
  iapply Hk
  isplitr; · iexact Hctx
  isplitl [HL]; · iexact HL
  isplitl [Hf']; · iexact Hf'
  isplitl [HR]; · iexact HR
  isplitl [HD]; · iexact HD
  iexact HO

/-! ## The second loop: the result, chunk by chunk -/

/-- The gain, as the body reads it. -/
def gain : sProp 𝕄 := owns (c : Thread nD τ)
  (gaM.slice (Rect.unit (s := S1x4096) ![0, 0] S1x4096.size inb_S1x4096_S1x4096_0_0) (fun _ => rfl)) fullShare (GA c)

/-- The chunks of the send buffer in the second loop: those not yet overwritten. -/
def kepts (k : ℕ) : sProp 𝕄 := bigSep Finset.univ fun i : Fin 8 =>
  if i.val < k then iprop(emp) else owns (c : Thread nD τ) (rows sendM i) fullShare.right (raw PA c i)
theorem kepts_start : raws (F := F) c PA 8 = kepts c PA 0 :=
  bigSep_congr fun i _ => (if_pos (by omega)).trans (if_neg (by omega)).symm
theorem kepts_step (k : Fin 8) : kepts c PA k.val
    ⊢ iprop(owns (c : Thread nD τ) (rows sendM k) fullShare.right (raw PA c k) ∗ (iprop(emp) -∗ kepts (F := F) c PA (k.val + 1))) :=
  fam_upd k (if_neg (by omega)) (if_pos (by omega)) fun i h => by
    have := Fin.val_ne_of_ne h
    exact if_congr (by omega) rfl rfl
/-- The chunks received along x that have been read. -/
def spent (k : ℕ) : sProp 𝕄 := bigSep Finset.univ fun i : Fin 8 =>
  if i.val < k then anyC c (rows recvM i) else iprop(emp)
theorem spent_step (k : Fin 8) : spent (F := F) c k.val ⊢ iprop(iprop(emp) ∗ (anyC c (rows recvM k) -∗ spent c (k.val + 1))) :=
  fam_upd k (if_neg (by omega)) (if_pos (by omega)) fun i h => by
    have := Fin.val_ne_of_ne h
    exact if_congr (by omega) rfl rfl

theorem got_x (k : Fin 8) : (owns (c : Thread nD τ) (dstC (tX k)) fullShare (got PA RE GA c (tX k)) : sProp 𝕄)
    = owns (c : Thread nD τ) (rows recvM k) fullShare (raw PA (nb 0 c) k) := by
  have h : tgt c (tX k) = nb 0 c := by
    rw [tgt_eq]; exact congrArg (nb · c) (if_pos (by show k.val < 8; omega))
  unfold got; rw [sent_x, h]; fin_cases k <;> rfl
theorem owns_y (k : Fin 8) : (owns (c : Thread nD τ) (srcC (tY k)) (shT (tY k)) (sent PA RE GA c (tY k)) : sProp 𝕄)
    = owns (c : Thread nD τ) (rows sendM k) fullShare.left (res PA RE GA c k) := by fin_cases k <;> rfl
theorem owns_z (k : Fin 8) : (owns (c : Thread nD τ) (srcC (tZ k)) (shT (tZ k)) (sent PA RE GA c (tZ k)) : sProp 𝕄)
    = owns (c : Thread nD τ) (rows sendM k) fullShare.right.left (res PA RE GA c k) := by fin_cases k <;> rfl
theorem owns_st (k : Fin 8) : (owns (c : Thread nD τ) (stSrc (tX k)) (shS (tX k)) (kept PA RE GA c (tX k)) : sProp 𝕄)
    = owns (c : Thread nD τ) (rows sendM k) fullShare.right.right (res PA RE GA c k) := by fin_cases k <;> rfl

theorem rk_x (k : Fin 8) : rkR (tX k) = k.val := if_pos (by show k.val < 8; omega)
theorem rkS_x (k : Fin 8) : rkS (tX k) = k.val := if_pos (by show k.val < 8; omega)
theorem rkS_high : ∀ t : Fin 32, 8 ≤ t.val → 8 ≤ rkS t := by decide +kernel
theorem lvT_x (k : Fin 8) (n : ℕ) (hn : 8 ≤ n) (t' : Fin 32) (h : n ≤ t'.val) : lvT (tX k) < lvT t' := by
  unfold lvT
  rw [if_pos (show (tX k).val < 8 by show k.val < 8; omega), if_neg (by omega)]
  split <;> omega

/-- The state between two chunks of the second loop, without the loads. -/
def mid2 (k : ℕ) : sProp 𝕄 :=
  iprop(kepts c PA k ∗ spent c k ∗ arrs c k ∗ deps c PA RE GA (8 + 2 * k) k ∗ stores c PA RE GA k ∗ gain c GA ∗ owing c (owed c (8 + 2 * k)))

theorem run_take (k : Fin 8) (j : ℕ) (hj : k.val < j) {Kt : PUnit → sProp 𝕄} :
    iprop(ctx PA RE GA K ∗ loads c reM (RE c) k.val j ∗ mid2 c PA RE GA k.val)
      ⊢ iprop(((free c (sl k) ∗ loads c reM (RE c) (k.val + 1) j ∗ mid2 c PA RE GA (k.val + 1)) -∗ Kt ⟨⟩)
          -∗ run c (take c k) Kt) := by
  unfold take run mid2
  rw [wp_bind]
  iintro ⟨#Hctx, HL, HB, HR, HA, HD, HS, Hg, HO⟩ Hk
  iapply (waitR_step c PA RE GA K (tX k) k.val (8 + 2 * k.val) (rk_x k) (lvT_x k _ (by omega))) $$ [HA HO]
  · isplitr; · iexact Hctx
    isplitl [HA]; · iexact HA
    iexact HO
  rw [got_x]
  iintro ⟨Hb, HA, HO⟩
  rw [wp_bind]
  iapply (ldWait_step c reM (RE c) j k hj (8 + 2 * k.val)) $$ [HL HO]
  · isplitr; · unfold ctx; icases Hctx with ⟨-, #Hlev⟩; iexact Hlev
    isplitl [HL]; · iexact HL
    iexact HO
  iintro ⟨Hsl, Hv, HL, HO⟩
  ihave H := (kepts_step c PA k) $$ HB
  icases H with ⟨Ha, HB⟩
  rw [wp_bind]
  iapply (run_load c sendM (rowsR k)) $$ Ha
  iintro Ha
  rw [wp_bind]
  iapply (run_load c recvM (rowsR k)) $$ Hb
  iintro Hb
  rw [wp_bind]
  iapply (run_ldRead c) $$ Hsl
  iintro Hsl
  rw [wp_bind]
  unfold gain
  iapply (run_load c gaM (Rect.unit (s := S1x4096) ![0, 0] S1x4096.size inb_S1x4096_S1x4096_0_0)) $$ Hg
  iintro Hg
  rw [wp_bind]
  iapply (waitS_step c PA RE GA K (tX k) (8 + 2 * k.val) k.val (by show k.val < _; omega) (rkS_x k)) $$ [HD HO]
  · isplitr; · iexact Hctx
    isplitl [HD]; · iexact HD
    iexact HO
  rw [owns_x, if_pos (show (tX k).val < 8 by show k.val < 8; omega)]
  iintro ⟨Ha', HD, HO⟩
  ihave Hs := (owns_unhalve c (rows sendM k) fullShare _ _) $$ [Ha Ha']
  · isplitl [Ha']; · iexact Ha'
    iexact Ha
  rw [wp_bind]
  iapply (run_load c sendM (rowsR k)) $$ Hs
  iintro Hs
  rw [wp_bind]
  iapply (run_store c sendM (rowsR k)) $$ Hs
  rw [show nrm (raw PA c k) (raw PA (nb 0 c) k) (unsq (RE c k)) (GA c) = res PA RE GA c k from rfl]
  iintro Hs
  ihave H := (owns_halve c _ fullShare _) $$ Hs
  icases H with ⟨Hy, Hs⟩
  ihave H := (owns_halve c _ fullShare.right _) $$ Hs
  icases H with ⟨Hz, Hs⟩
  rw [wp_bind]
  iapply (emit_step c PA RE GA K (tX k) k.val (8 + 2 * k.val) rfl) $$ [Hs HS HO]
  · isplitr; · iexact Hctx
    isplitl [Hs]; · rw [owns_st]; iexact Hs
    isplitl [HS]; · iexact HS
    iexact HO
  iintro ⟨HS, HO⟩
  rw [wp_bind]
  iapply (send_step c PA RE GA K (tY k) (8 + 2 * k.val) (k.val + 1) rfl
    (le_trans (by omega) (rkS_high _ (by show 8 ≤ 8 + 2 * k.val; omega)))) $$ [Hy HD HO]
  · isplitr; · iexact Hctx
    isplitl [Hy]; · rw [owns_y]; iexact Hy
    isplitl [HD]; · iapply HD; iempintro
    iexact HO
  iintro ⟨HD, HO⟩
  iapply (send_step c PA RE GA K (tZ k) (8 + 2 * k.val + 1) (k.val + 1) (by show 9 + 2 * k.val = _; omega)
    (le_trans (by omega) (rkS_high _ (by show 8 ≤ 9 + 2 * k.val; omega)))) $$ [Hz HD HO]
  · isplitr; · iexact Hctx
    isplitl [Hz]; · rw [owns_z]; iexact Hz
    isplitl [HD]; · iexact HD
    iexact HO
  iintro ⟨HD, HO⟩
  ihave H := (spent_step c k) $$ HR
  icases H with ⟨-, HR⟩
  rw [show 8 + 2 * k.val + 1 + 1 = 8 + 2 * (k.val + 1) by omega]
  iapply Hk
  isplitl [Hsl Hv]
  · unfold free
    isplitl [Hsl]
    · iapply (anyC_intro c); iexact Hsl
    iexact Hv
  isplitl [HL]; · iexact HL
  isplitl [HB]; · iapply HB; iempintro
  isplitl [HR Hb]
  · iapply HR; iapply (anyC_intro c); iexact Hb
  isplitl [HA]; · iexact HA
  isplitl [HD]; · iexact HD
  isplitl [HS]; · iexact HS
  isplitl [Hg]; · iexact Hg
  iexact HO

/-- The state at the head of the second loop. -/
def inv2 (k : ℕ) : sProp 𝕄 :=
  iprop(ctx PA RE GA K ∗ loads c reM (RE c) k (k + 1) ∗ free c (slN (k + 1)) ∗ mid2 c PA RE GA k)

theorem run_phase2 {Kt : PUnit → sProp 𝕄} :
    iprop(ctx PA RE GA K ∗ loads c reM (RE c) 0 0 ∗ free c 0 ∗ free c 1 ∗ mid2 c PA RE GA 0)
      ⊢ iprop(((loads c reM (RE c) 8 8 ∗ free c 0 ∗ free c 1 ∗ mid2 c PA RE GA 8) -∗ Kt ⟨⟩)
          -∗ run c (phase2 c) Kt) := by
  unfold phase2 run
  rw [wp_bind]
  iintro ⟨#Hctx, HL, Hf0, Hf1, HM⟩ Hk
  iapply (ldStart_step c reM (RE c) 0 0 (Nat.zero_le _)) $$ [HL Hf0]
  · isplitl [HL]; · iexact HL
    iexact Hf0
  iintro HL
  rw [wp_bind]
  iapply (run_times c (inv2 c PA RE GA K) 7 _ 0 _ ?_)
  rotate_left
  · isplitr [Hk]
    · unfold inv2
      isplitr; · iexact Hctx
      isplitl [HL]; · iexact HL
      isplitl [Hf1]; · iexact Hf1
      iexact HM
    unfold inv2
    iintro ⟨-, HL, Hf, HM⟩
    iapply (run_take c PA RE GA K 7 8 (by decide)) $$ [HL HM]
    · isplitr; · iexact Hctx
      isplitl [HL]; · iexact HL
      iexact HM
    iintro ⟨Hf', HL, HM⟩
    iapply Hk
    isplitl [HL]; · iexact HL
    isplitl [Hf]; · iexact Hf
    isplitl [Hf']; · iexact Hf'
    iexact HM
  intro k Kt'
  rw [Nat.zero_add]
  unfold inv2 run
  rw [wp_bind, ← sl_succ, ← sl_cast]
  iintro ⟨⟨#Hctx, HL, Hf, HM⟩, Hk⟩
  iapply (ldStart_step c reM (RE c) k.val k.succ (by rw [Fin.val_succ]; omega)) $$ [HL Hf]
  · isplitl [HL]; · iexact HL
    iexact Hf
  iintro HL
  iapply (run_take c PA RE GA K k.castSucc (k.val + 1 + 1) (by show k.val < _; omega)) $$ [HL HM]
  · isplitr; · iexact Hctx
    isplitl [HL]; · iexact HL
    iexact HM
  iintro ⟨Hf', HL, HM⟩
  iapply Hk
  isplitr; · iexact Hctx
  isplitl [HL]; · iexact HL
  isplitl [Hf']; · iexact Hf'
  iexact HM

/-! ## The quarters of the other devices: forwarded, stored -/

/-- The state of the third phase once `r` arrivals have been waited for and `n` transfers started. -/
def mid3 (r n : ℕ) : sProp 𝕄 :=
  iprop(ctx PA RE GA K ∗ arrs c r ∗ deps c PA RE GA n 8 ∗ stores c PA RE GA r ∗ owing c (owed c n))

/-- An arrival `t` forwarded by transfer `u` and stored by store `j`. -/
theorem run_forth (t u j : Fin 32) (n : ℕ) (hr : rkR t = j.val) (hu : u.val = n) (hn : ∀ t' : Fin 32, n ≤ t'.val → lvT t < lvT t')
    (hw : 8 ≤ rkS u)
    (hsend : (owns (c : Thread nD τ) (srcC u) (shT u) (sent PA RE GA c u) : sProp 𝕄) = owns (c : Thread nD τ) (dstC t) fullShare.left (got PA RE GA c t))
    (hst : (owns (c : Thread nD τ) (stSrc j) (shS j) (kept PA RE GA c j) : sProp 𝕄) = owns (c : Thread nD τ) (dstC t) fullShare.right (got PA RE GA c t))
    {Kt : PUnit → sProp 𝕄} :
    iprop(mid3 c PA RE GA K j.val n)
      ⊢ iprop((mid3 c PA RE GA K (j.val + 1) (n + 1) -∗ Kt ⟨⟩) -∗ run c (do waitR t; send c u; emit c j) Kt) := by
  unfold run mid3
  rw [wp_bind]
  iintro ⟨#Hctx, HA, HD, HS, HO⟩ Hk
  iapply (waitR_step c PA RE GA K t j.val n hr hn) $$ [HA HO]
  · isplitr; · iexact Hctx
    isplitl [HA]; · iexact HA
    iexact HO
  iintro ⟨Hb, HA, HO⟩
  ihave H := (owns_halve c _ fullShare _) $$ Hb
  icases H with ⟨Hy, Hs⟩
  rw [wp_bind]
  iapply (send_step c PA RE GA K u n 8 hu hw) $$ [Hy HD HO]
  · isplitr; · iexact Hctx
    isplitl [Hy]; · rw [hsend]; iexact Hy
    isplitl [HD]; · iexact HD
    iexact HO
  iintro ⟨HD, HO⟩
  iapply (emit_step c PA RE GA K j j.val (n + 1) rfl) $$ [Hs HS HO]
  · isplitr; · iexact Hctx
    isplitl [Hs]; · rw [hst]; iexact Hs
    isplitl [HS]; · iexact HS
    iexact HO
  iintro ⟨HS, HO⟩
  iapply Hk
  isplitr; · iexact Hctx
  isplitl [HA]; · iexact HA
  isplitl [HD]; · iexact HD
  isplitl [HS]; · iexact HS
  iexact HO

/-- An arrival `t` stored by store `j`, after the last transfer has been started. -/
theorem run_keep (t j : Fin 32) (r : ℕ) (hj : j.val = r) (hr : rkR t = r)
    (hst : (owns (c : Thread nD τ) (stSrc j) (shS j) (kept PA RE GA c j) : sProp 𝕄) = owns (c : Thread nD τ) (dstC t) fullShare (got PA RE GA c t))
    {Kt : PUnit → sProp 𝕄} :
    iprop(mid3 c PA RE GA K r 32 ∗ (mid3 c PA RE GA K (r + 1) 32 -∗ Kt ⟨⟩)) ⊢ run c (keep c t j) Kt := by
  unfold run mid3 keep
  rw [wp_bind]
  iintro ⟨⟨#Hctx, HA, HD, HS, HO⟩, Hk⟩
  iapply (waitR_step c PA RE GA K t r 32 hr (fun t' h => absurd h (by omega))) $$ [HA HO]
  · isplitr; · iexact Hctx
    isplitl [HA]; · iexact HA
    iexact HO
  iintro ⟨Hb, HA, HO⟩
  iapply (emit_step c PA RE GA K j r 32 hj) $$ [Hb HS HO]
  · isplitr; · iexact Hctx
    isplitl [Hb]; · rw [hst]; iexact Hb
    isplitl [HS]; · iexact HS
    iexact HO
  iintro ⟨HS, HO⟩
  iapply Hk
  isplitr; · iexact Hctx
  isplitl [HA]; · iexact HA
  isplitl [HD]; · iexact HD
  isplitl [HS]; · iexact HS
  iexact HO

/-- What arrives by a transfer along y or z, and by a forwarded one. -/
theorem got_yz (t : Fin 32) (h : 8 ≤ t.val) (h' : t.val < 24) : got PA RE GA c t = res PA RE GA (nb (dir t) c) (chT t) := by
  unfold got sent; rw [if_neg (by omega), if_pos h', tgt_eq]
theorem got_d (t : Fin 32) (h : 24 ≤ t.val) : got PA RE GA c t = res PA RE GA (nb 2 (nb 1 c)) (chT t) := by
  unfold got sent
  rw [if_neg (by omega), if_neg (by omega), tgt_eq]
  split
  · rw [show dir t = 1 by unfold dir; rw [if_neg (by omega), if_neg (by omega), if_pos (by assumption)]]
  · rw [show dir t = 2 by unfold dir; rw [if_neg (by omega), if_neg (by omega), if_neg (by assumption)], nb_comm]

theorem lvT_yz : ∀ t t' : Fin 32, t.val < 24 → 24 ≤ t'.val → lvT t < lvT t' := by decide +kernel

theorem run_forthY (k : Fin 4) {Kt : PUnit → sProp 𝕄} :
    iprop(mid3 c PA RE GA K (8 + k.val) (24 + k.val) ∗ (mid3 c PA RE GA K (8 + k.val + 1) (24 + k.val + 1) -∗ Kt ⟨⟩)) ⊢ run c (forthY c k) Kt := by
  iintro ⟨H, Hk⟩
  iapply (run_forth c PA RE GA K ⟨9 + 2 * k.val, by omega⟩ ⟨24 + k.val, by omega⟩ ⟨8 + k.val, by omega⟩ (24 + k.val)
    (by fin_cases k <;> rfl) rfl (fun t' h => lvT_yz _ t' (by show 9 + 2 * k.val < 24; omega) (by omega)) (by fin_cases k <;> decide)
    (by rw [got_yz c PA RE GA _ (by show 8 ≤ 9 + 2 * k.val; omega) (by show 9 + 2 * k.val < 24; omega)]; fin_cases k <;> rfl)
    (by rw [got_yz c PA RE GA _ (by show 8 ≤ 9 + 2 * k.val; omega) (by show 9 + 2 * k.val < 24; omega)]; fin_cases k <;> rfl)) $$ H
  iexact Hk
theorem run_forthZ (k : Fin 4) {Kt : PUnit → sProp 𝕄} :
    iprop(mid3 c PA RE GA K (12 + k.val) (28 + k.val) ∗ (mid3 c PA RE GA K (12 + k.val + 1) (28 + k.val + 1) -∗ Kt ⟨⟩)) ⊢ run c (forthZ c k) Kt := by
  iintro ⟨H, Hk⟩
  iapply (run_forth c PA RE GA K ⟨16 + 2 * k.val, by omega⟩ ⟨28 + k.val, by omega⟩ ⟨12 + k.val, by omega⟩ (28 + k.val)
    (by fin_cases k <;> rfl) rfl (fun t' h => lvT_yz _ t' (by show 16 + 2 * k.val < 24; omega) (by omega)) (by fin_cases k <;> decide)
    (by rw [got_yz c PA RE GA _ (by show 8 ≤ 16 + 2 * k.val; omega) (by show 16 + 2 * k.val < 24; omega)]; fin_cases k <;> rfl)
    (by rw [got_yz c PA RE GA _ (by show 8 ≤ 16 + 2 * k.val; omega) (by show 16 + 2 * k.val < 24; omega)]; fin_cases k <;> rfl)) $$ H
  iexact Hk

theorem run_phase3 {Kt : PUnit → sProp 𝕄} :
    iprop(mid3 c PA RE GA K 8 24 ∗ (mid3 c PA RE GA K 32 32 -∗ Kt ⟨⟩)) ⊢ run c (phase3 c) Kt := by
  unfold phase3 run
  rw [wp_bind]
  iintro ⟨H, Hk⟩
  iapply (run_times c (fun i => mid3 c PA RE GA K (8 + i) (24 + i)) 4 _ 0 _ (fun k Kt' => by
    rw [Nat.zero_add]; exact run_forthY c PA RE GA K k))
  isplitl [H]; · iexact H
  iintro H
  rw [wp_bind]
  iapply (run_times c (fun i => mid3 c PA RE GA K (12 + i) (28 + i)) 4 _ 0 _ (fun k Kt' => by
    rw [Nat.zero_add]; exact run_forthZ c PA RE GA K k))
  isplitl [H]; · iexact H
  iintro H
  rw [wp_bind]
  iapply (run_times c (fun i => mid3 c PA RE GA K i 32) 4 _ 16 _ (fun k Kt' => run_keep c PA RE GA K _ _ _ (by rfl) (by fin_cases k <;> rfl)
      (by rw [got_yz c PA RE GA _ (by show 8 ≤ 17 + 2 * k.val; omega) (by show 17 + 2 * k.val < 24; omega)]; fin_cases k <;> rfl)))
  isplitl [H]; · iexact H
  iintro H
  rw [wp_bind]
  iapply (run_times c (fun i => mid3 c PA RE GA K i 32) 4 _ 20 _ (fun k Kt' => run_keep c PA RE GA K _ _ _ (by rfl) (by fin_cases k <;> rfl)
      (by rw [got_yz c PA RE GA _ (by show 8 ≤ 8 + 2 * k.val; omega) (by show 8 + 2 * k.val < 24; omega)]; fin_cases k <;> rfl)))
  isplitl [H]; · iexact H
  iintro H
  iapply (run_times c (fun i => mid3 c PA RE GA K i 32) 8 _ 24 _ (fun k Kt' => run_keep c PA RE GA K _ _ _ (by rfl) (by fin_cases k <;> rfl)
      (by rw [got_d c PA RE GA _ (by show 24 ≤ 24 + k.val; omega)]; fin_cases k <;> rfl)))
  isplitl [H]; · iexact H
  iexact Hk

/-! ## The last waits -/

/-- The state of the last phase. -/
def mid4 (w n : ℕ) : sProp 𝕄 := iprop(ctx PA RE GA K ∗ deps c PA RE GA 32 w ∗ stores c PA RE GA n ∗ owing c (owed c 32))

theorem run_waitS_last (t : Fin 32) (w n : ℕ) (hw : rkS t = w) (h8 : 8 ≤ t.val) {Kt : PUnit → sProp 𝕄} :
    iprop(mid4 c PA RE GA K w n ∗ (mid4 c PA RE GA K (w + 1) n -∗ Kt ⟨⟩)) ⊢ run c (waitS t) Kt := by
  unfold mid4
  iintro ⟨⟨#Hctx, HD, HS, HO⟩, Hk⟩
  iapply (waitS_last c PA RE GA K t 32 w (by omega) hw h8) $$ [HD HO]
  · isplitr; · iexact Hctx
    isplitl [HD]; · iexact HD
    iexact HO
  iintro ⟨HD, HO⟩
  iapply Hk
  isplitr; · iexact Hctx
  isplitl [HD]; · iexact HD
  isplitl [HS]; · iexact HS
  iexact HO
theorem run_stWait_last (j : Fin 32) (w n : ℕ) (hn : j.val + 4 = n) (hj : 28 ≤ j.val) {Kt : PUnit → sProp 𝕄} :
    iprop(mid4 c PA RE GA K w n ∗ (mid4 c PA RE GA K w (n + 1) -∗ Kt ⟨⟩)) ⊢ run c (stWait c j) Kt := by
  unfold mid4
  iintro ⟨⟨#Hctx, HD, HS, HO⟩, Hk⟩
  iapply (stWait_last c PA RE GA K j n hn hj 32) $$ [HS HO]
  · isplitr; · iexact Hctx
    isplitl [HS]; · iexact HS
    iexact HO
  iintro ⟨HS, HO⟩
  iapply Hk
  isplitr; · iexact Hctx
  isplitl [HD]; · iexact HD
  isplitl [HS]; · iexact HS
  iexact HO

theorem run_phase4 {Kt : PUnit → sProp 𝕄} :
    iprop(mid4 c PA RE GA K 8 32 ∗ (mid4 c PA RE GA K 32 36 -∗ Kt ⟨⟩)) ⊢ run c (phase4 c) Kt := by
  unfold phase4 run
  rw [wp_bind]
  iintro ⟨H, Hk⟩
  iapply (run_times c (fun i => mid4 c PA RE GA K i 32) 8 _ 8 _ (fun k Kt' =>
    run_waitS_last c PA RE GA K _ _ _ (by fin_cases k <;> rfl) (by show 8 ≤ 8 + 2 * k.val; omega)))
  isplitl [H]; · iexact H
  iintro H
  rw [wp_bind]
  iapply (run_times c (fun i => mid4 c PA RE GA K i 32) 8 _ 16 _ (fun k Kt' =>
    run_waitS_last c PA RE GA K _ _ _ (by fin_cases k <;> rfl) (by show 8 ≤ 9 + 2 * k.val; omega)))
  isplitl [H]; · iexact H
  iintro H
  rw [wp_bind]
  iapply (run_times c (fun i => mid4 c PA RE GA K i 32) 8 _ 24 _ (fun k Kt' =>
    run_waitS_last c PA RE GA K _ _ _ (by fin_cases k <;> rfl) (by show 8 ≤ 24 + k.val; omega)))
  isplitl [H]; · iexact H
  iintro H
  iapply (run_times c (fun i => mid4 c PA RE GA K 32 i) 4 _ 32 _ (fun k Kt' =>
    run_stWait_last c PA RE GA K _ _ _ (by show 28 + k.val + 4 = _; omega) (by show 28 ≤ 28 + k.val; omega)))
  isplitl [H]; · iexact H
  iexact Hk

/-! ## The whole body -/

/-- What the body starts from: the facts, the cells, the chunks of the inputs, the buffers, the rows of the result. -/
def startState : sProp 𝕄 :=
  iprop(ctx PA RE GA K ∗ before c ∗ arrs c 0 ∗ stores c PA RE GA 0 ∗ loads c paM (PA c) 0 0 ∗ loads c reM (RE c) 0 0
    ∗ free c 0 ∗ free c 1 ∗ raws c PA 0 ∗ gain c GA ∗ owing c (bowed c 0))
/-- What it ends with. -/
def endState : sProp 𝕄 :=
  iprop(arrs c 32 ∗ deps c PA RE GA 32 32 ∗ stores c PA RE GA 36 ∗ loads c paM (PA c) 8 8 ∗ loads c reM (RE c) 8 8
    ∗ free c 0 ∗ free c 1 ∗ spent c 8 ∗ gain c GA ∗ semVal (bcell c) 0 ∗ owing c 0)

theorem run_text {Kt : PUnit → sProp 𝕄} :
    iprop(startState c PA RE GA K) ⊢ iprop((endState c PA RE GA -∗ Kt ⟨⟩) -∗ run c text Kt) := by
  unfold startState endState text run
  rw [wp_bind]
  iintro ⟨#Hctx, Hbef, HA, HS, HLp, HLr, Hf0, Hf1, HR, Hg, HO⟩ Hk
  rw [show (Prog.lift .deviceId : Prog (Eff F) (Dev nD)) = Prog.op .deviceId Prog.ret from rfl, wp_deviceId, wp_ret]
  imodintro
  rw [wp_bind]
  iapply (run_hello c PA RE GA K) $$ [Hbef HO]
  · isplitr; · iexact Hctx
    isplitl [Hbef]; · iexact Hbef
    iexact HO
  iintro ⟨HD, Hz, HO⟩
  rw [wp_bind]
  iapply (run_phase1 c PA RE GA K) $$ [HLp Hf0 Hf1 HR HD HO]
  · isplitr; · iexact Hctx
    isplitl [HLp]; · iexact HLp
    isplitl [Hf0]; · iexact Hf0
    isplitl [Hf1]; · iexact Hf1
    isplitl [HR]; · iexact HR
    isplitl [HD]; · iexact HD
    iexact HO
  rw [kepts_start]
  iintro ⟨HLp, Hf0, Hf1, HR, HD, HO⟩
  rw [wp_bind]
  iapply (run_phase2 c PA RE GA K) $$ [HLr Hf0 Hf1 HR HD HO HA HS Hg]
  · isplitr; · iexact Hctx
    isplitl [HLr]; · iexact HLr
    isplitl [Hf0]; · iexact Hf0
    isplitl [Hf1]; · iexact Hf1
    unfold mid2
    isplitl [HR]; · iexact HR
    isplitr
    · iapply (show (BI.emp : sProp 𝕄) ⊢ spent c 0 from by
        unfold spent
        rw [bigSep_congr (s := Finset.univ) (Φ := fun i : Fin 8 => if i.val < 0 then anyC c (rows recvM i) else iprop(emp))
          (Ψ := fun _ : Fin 8 => (BI.emp : sProp 𝕄)) fun i _ => (if_neg (by omega)).trans rfl, bigSep_emp_const])
      iempintro
    isplitl [HA]; · iexact HA
    isplitl [HD]; · iexact HD
    isplitl [HS]; · iexact HS
    isplitl [Hg]; · iexact Hg
    iexact HO
  unfold mid2
  iintro ⟨HLr, Hf0, Hf1, -, Hsp, HA, HD, HS, Hg, HO⟩
  rw [wp_bind]
  iapply (run_phase3 c PA RE GA K)
  isplitl [HA HD HS HO]
  · unfold mid3
    isplitr; · iexact Hctx
    isplitl [HA]; · iexact HA
    isplitl [HD]; · iexact HD
    isplitl [HS]; · iexact HS
    iexact HO
  unfold mid3
  iintro ⟨-, HA, HD, HS, HO⟩
  iapply (run_phase4 c PA RE GA K)
  isplitl [HD HS HO]
  · unfold mid4
    isplitr; · iexact Hctx
    isplitl [HD]; · iexact HD
    isplitl [HS]; · iexact HS
    iexact HO
  unfold mid4
  rw [owed_done]
  iintro ⟨-, HD, HS, HO⟩
  iapply Hk
  isplitl [HA]; · iexact HA
  isplitl [HD]; · iexact HD
  isplitl [HS]; · iexact HS
  isplitl [HLp]; · iexact HLp
  isplitl [HLr]; · iexact HLr
  isplitl [Hf0]; · iexact Hf0
  isplitl [Hf1]; · iexact Hf1
  isplitl [Hsp]; · iexact Hsp
  isplitl [Hg]; · iexact Hg
  isplitl [Hz]; · iexact Hz
  iexact HO

end Cert.KernelIdeal.RS

end
-- ==== Proof.MemIdeal.lean ====
/- The buffers of a device as families of chunks: how the whole buffers are cut for the body, and how the chunks it
   leaves make whole buffers again. -/
module

public import proofs.«01_k».proof.Proof.BodyIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Contents given part by part -/

/-- One array with the given parts on disjoint rectangles. -/
theorem glue {sh : Shape} {α : Type} [Nonempty α] {T : Type} (r : T → Rect sh)
    (hd : ∀ t t', t ≠ t' → Disjoint (r t).set (r t').set) (Y : ∀ t, (r t).shape.Idx → α) :
    ∃ X : sh.Idx → α, ∀ t j, X ((r t).emb j) = Y t j := by
  classical
  refine ⟨fun x => if h : ∃ p : (t : T) × (r t).shape.Idx, (r p.1).emb p.2 = x then Y h.choose.1 h.choose.2
    else Classical.arbitrary α, fun t j => ?_⟩
  have h : ∃ p : (t : T) × (r t).shape.Idx, (r p.1).emb p.2 = (r t).emb j := ⟨⟨t, j⟩, rfl⟩
  refine (dif_pos h).trans ?_
  have key : ∀ p : (t : T) × (r t).shape.Idx, (r p.1).emb p.2 = (r t).emb j → Y p.1 p.2 = Y t j := by
    rintro ⟨t', j'⟩ e
    by_cases ht : t' = t
    · subst ht; rw [(r t').emb.injective e]
    · exfalso
      have m1 : (r t).emb j ∈ (r t').set := by
        rw [← e, ← Rect.map_emb_univ]; exact Finset.mem_map_of_mem _ (Finset.mem_univ _)
      have m2 : (r t).emb j ∈ (r t).set := by
        rw [← Rect.map_emb_univ]; exact Finset.mem_map_of_mem _ (Finset.mem_univ _)
      exact Finset.disjoint_left.mp (hd t' t ht) m1 m2
  exact key _ h.choose_spec

section Any
variable {sp : Space} {sh : Shape} {e : EltTy} (m : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

omit [FloatOps F] in
theorem any_split : anyC (F := F) c m ⊢ bigSep Finset.univ fun t => anyC c (m.slice (r t) (hr t)) := by
  unfold anyC
  iintro ⟨%X, H⟩
  ihave H' := (owns_rects (c : Thread nD τ) m fullShare r hr hd hcov X) $$ H
  iapply (show (bigSep Finset.univ fun t => owns (c : Thread nD τ) (m.slice (r t) (hr t)) fullShare (fun j => X ((r t).emb j)) : sProp 𝕄)
    ⊢ bigSep Finset.univ fun t => iprop(∃ X, owns (c : Thread nD τ) (m.slice (r t) (hr t)) fullShare X) from
    bigSep_mono fun t _ => anyC_intro c (m.slice (r t) (hr t)) _) $$ H'

theorem owns_glue (Y : ∀ t, (r t).shape.Idx → Elt F e) (X : sh.Idx → Elt F e) (hX : ∀ t j, X ((r t).emb j) = Y t j) :
    (bigSep Finset.univ fun t => owns (c : Thread nD τ) (m.slice (r t) (hr t)) fullShare (Y t) : sProp 𝕄)
      ⊢ owns (c : Thread nD τ) m fullShare X := by
  rw [show Y = fun t j => X ((r t).emb j) from funext fun t => funext fun j => (hX t j).symm]
  exact owns_of_rects (c : Thread nD τ) m fullShare r hr hd hcov X

theorem any_join : (bigSep Finset.univ fun t => anyC (F := F) c (m.slice (r t) (hr t))) ⊢ anyC c m := by
  have h := bigSep_exists_pi (M := 𝕄) (Finset.univ : Finset T)
    (fun t (X : (r t).shape.Idx → Elt F e) => owns (c : Thread nD τ) (m.slice (r t) (hr t)) fullShare X)
  refine h.trans ?_
  iintro ⟨%Y, H⟩
  obtain ⟨X, hX⟩ := glue r hd Y
  iapply (anyC_intro c m X)
  iapply (owns_glue c m r hr hd hcov Y X hX) $$ H
end Any

/-! ## Row bands -/

theorem band_rect_disjoint {n : ℕ} (a b : ℕ) (ha : ∀ i, (![128 * a, 0] : Fin 2 → ℕ) i + S128x4096.size i ≤ (⟨2, ![n, 4096]⟩ : Shape).size i)
    (hb : ∀ i, (![128 * b, 0] : Fin 2 → ℕ) i + S128x4096.size i ≤ (⟨2, ![n, 4096]⟩ : Shape).size i) (h : a ≠ b) :
    Disjoint (Rect.unit (s := ⟨2, ![n, 4096]⟩) ![128 * a, 0] S128x4096.size ha).set
      (Rect.unit (s := ⟨2, ![n, 4096]⟩) ![128 * b, 0] S128x4096.size hb).set := by
  refine Rect.unit_disjoint (0 : Fin 2) ?_
  show 128 * a + 128 ≤ 128 * b ∨ 128 * b + 128 ≤ 128 * a
  omega

theorem band_rect_mem {n : ℕ} (a : ℕ) (ha : ∀ i, (![128 * a, 0] : Fin 2 → ℕ) i + S128x4096.size i ≤ (⟨2, ![n, 4096]⟩ : Shape).size i)
    (x : (⟨2, ![n, 4096]⟩ : Shape).Idx) (h : (x 0).val / 128 = a) :
    x ∈ (Rect.unit (s := ⟨2, ![n, 4096]⟩) ![128 * a, 0] S128x4096.size ha).set := by
  rw [Rect.mem_set_unit]
  intro i
  fin_cases i
  · show 128 * a ≤ (x 0).val ∧ (x 0).val < 128 * a + 128
    omega
  · have := (x 1).isLt
    show 0 ≤ (x 1).val ∧ (x 1).val < 0 + 4096
    exact ⟨Nat.zero_le _, by simpa using this⟩

theorem rowsR_disjoint (t t' : Fin 8) (h : t ≠ t') : Disjoint (rowsR t).set (rowsR t').set :=
  band_rect_disjoint (n := 1024) t.val t'.val (rows_inb t) (rows_inb t') (Fin.val_ne_of_ne h)
theorem rowsR_cover : (Finset.univ : Finset (Fin 8)).biUnion (fun t => (rowsR t).set) = Finset.univ := by
  refine Finset.eq_univ_of_forall fun x => Finset.mem_biUnion.mpr ?_
  have hx : (x 0).val < 1024 := (x 0).isLt
  exact ⟨⟨(x 0).val / 128, by omega⟩, Finset.mem_univ _, band_rect_mem (n := 1024) _ (rows_inb ⟨(x 0).val / 128, by omega⟩) x rfl⟩

omit [FloatOps F] in
/-- A quarter as its eight chunks, -/
theorem quarter_split (b : Quarter) : anyC (F := F) c b ⊢ bigSep Finset.univ fun k => anyC c (rows b k) :=
  any_split c b rowsR (fun _ _ => rfl) rowsR_disjoint rowsR_cover
/-- and back. -/
theorem quarter_join (b : Quarter) : (bigSep Finset.univ fun k => anyC (F := F) c (rows b k)) ⊢ anyC c b :=
  any_join c b rowsR (fun _ _ => rfl) rowsR_disjoint rowsR_cover

/-! ## The two slots -/

theorem slotR_disjoint (t t' : Fin 2) (h : t ≠ t') : Disjoint (slotR t).set (slotR t').set := by
  refine Rect.unit_disjoint (0 : Fin 3) ?_
  have := Fin.val_ne_of_ne h
  show t.val + 1 ≤ t'.val ∨ t'.val + 1 ≤ t.val
  omega
theorem slotR_cover : (Finset.univ : Finset (Fin 2)).biUnion (fun t => (slotR t).set) = Finset.univ := by
  refine Finset.eq_univ_of_forall fun x => Finset.mem_biUnion.mpr ⟨x 0, Finset.mem_univ _, ?_⟩
  rw [Rect.mem_set_unit]
  intro i
  fin_cases i
  · show (x 0).val ≤ (x 0).val ∧ (x 0).val < (x 0).val + 1
    omega
  · exact ⟨Nat.zero_le _, by have := (x 1).isLt; show (x 1).val < 0 + 128; simpa using this⟩
  · exact ⟨Nat.zero_le _, by have := (x 2).isLt; show (x 2).val < 0 + 4096; simpa using this⟩

omit [FloatOps F] in
theorem any_slot (s : Fin 2) : anyC (F := F) c (slot s) = anyC c (lvM.slice (slotR s) (fun _ => rfl)) := by
  have h1 : anyC (F := F) c (slot s) ⊢ anyC c (lvM.slice (slotR s) (fun _ => rfl)) := by
    unfold anyC
    iintro ⟨%X, H⟩
    iexists unsq X
    rw [← slot_eq]; iexact H
  have h2 : anyC (F := F) c (lvM.slice (slotR s) (fun _ => rfl)) ⊢ anyC c (slot s) := by
    unfold anyC
    iintro ⟨%X, H⟩
    iexists (shapeCast S128x4096 X shapeCasts_S1x128x4096_S128x4096)
    rw [slot_eq]
    rw [show unsq (shapeCast S128x4096 X shapeCasts_S1x128x4096_S128x4096) = X from shapeCast_shapeCast _ _ _]
    iexact H
  exact BI.equiv_iff.mp ⟨h1, h2⟩

omit [FloatOps F] in
theorem slots_split : anyC (F := F) c lvM ⊢ iprop(anyC c (slot 0) ∗ anyC c (slot 1)) := by
  refine (any_split c lvM slotR (fun _ _ => rfl) slotR_disjoint slotR_cover).trans ?_
  rw [bigSep_fin_two, any_slot, any_slot]
  exact .rfl
theorem slots_join : iprop(anyC c (slot 0) ∗ anyC c (slot 1)) ⊢ anyC (F := F) c lvM := by
  rw [any_slot, any_slot]
  exact (show _ ⊢ _ from Entails.of_eq (bigSep_fin_two fun s => anyC (F := F) c (lvM.slice (slotR s) (fun _ => rfl))).symm).trans
    (any_join c lvM slotR (fun _ _ => rfl) slotR_disjoint slotR_cover)

/-! ## The bands of the whole arrays -/

/-- The number of the band that store `j` of device `c` writes. -/
def bandN (c : Dev nD) (j : Fin 32) : ℕ := 8 * ((stDev c j).val % 4) + (stC j).val
theorem stOff_val : ∀ (c : Dev nD) (j : Fin 32) (a : Fin 2), stOff c j a = (![128 * bandN c j, 0] : Fin 2 → ℕ) a := by decide +kernel
theorem stOff_eq (c : Dev nD) (j : Fin 32) : stOff c j = ![128 * bandN c j, 0] := funext (stOff_val c j)
theorem bandN_inj : ∀ (c : Dev nD) (j j' : Fin 32), bandN c j = bandN c j' → j = j' := by decide +kernel
theorem bandN_onto : ∀ (c : Dev nD) (b : Fin 32), ∃ j, bandN c j = b.val := by decide +kernel
theorem ldOff_val : ∀ (c : Dev nD) (k : Fin 8) (a : Fin 2), ldOff c k a = stOff c ⟨k.val, by omega⟩ a := by decide +kernel
theorem ldOff_eq (c : Dev nD) (k : Fin 8) : ldOff c k = stOff c ⟨k.val, by omega⟩ := funext (ldOff_val c k)

/-- The rectangle of store `j`. -/
abbrev stR (c : Dev nD) (j : Fin 32) : Rect S4096x4096 := Rect.unit (s := S4096x4096) (stOff c j) S128x4096.size (stOff_inb c j)
/-- The rectangle of chunk `k` of the own quarter. -/
abbrev ldR (c : Dev nD) (k : Fin 8) : Rect S4096x4096 := Rect.unit (s := S4096x4096) (ldOff c k) S128x4096.size (ldOff_inb c k)

theorem stR_disjoint (j j' : Fin 32) (h : j ≠ j') : Disjoint (stR c j).set (stR c j').set := by
  have hb : bandN c j ≠ bandN c j' := fun e => h (bandN_inj c _ _ e)
  refine Rect.unit_disjoint (0 : Fin 2) ?_
  rw [stOff_eq, stOff_eq]
  show 128 * bandN c j + 128 ≤ 128 * bandN c j' ∨ 128 * bandN c j' + 128 ≤ 128 * bandN c j
  omega
theorem stR_mem (x : S4096x4096.Idx) (j : Fin 32) (h : bandN c j = (x 0).val / 128) : x ∈ (stR c j).set := by
  rw [Rect.mem_set_unit]
  intro i
  rw [stOff_eq, h]
  fin_cases i
  · show 128 * ((x 0).val / 128) ≤ (x 0).val ∧ (x 0).val < 128 * ((x 0).val / 128) + 128
    omega
  · have := (x 1).isLt
    show 0 ≤ (x 1).val ∧ (x 1).val < 0 + 4096
    exact ⟨Nat.zero_le _, by simpa using this⟩
theorem stR_cover : (Finset.univ : Finset (Fin 32)).biUnion (fun j => (stR c j).set) = Finset.univ := by
  refine Finset.eq_univ_of_forall fun x => Finset.mem_biUnion.mpr ?_
  have hx : (x 0).val < 4096 := (x 0).isLt
  obtain ⟨j, hj⟩ := bandN_onto c ⟨(x 0).val / 128, by omega⟩
  exact ⟨j, Finset.mem_univ _, stR_mem c x j hj⟩

/-- The part of an array that is chunk `k` of device `c`'s quarter. -/
def part {e : EltTy} (X : S4096x4096.Idx → Elt F e) (c : Dev nD) (k : Fin 8) : Vec F S128x4096 e := fun j => X ((ldR c k).emb j)

theorem part_eq (a : Memref sig .tc .hbm S4096x4096 .f32) (X : S4096x4096.Idx → Elt F .f32) (k : Fin 8) :
    (owns (c : Thread nD τ) (a.slice (stR c ⟨k.val, by omega⟩) (fun _ => rfl)) fullShare (fun j => X ((stR c ⟨k.val, by omega⟩).emb j)) : sProp 𝕄)
      = owns (c : Thread nD τ) (ldSrc a c k) fullShare (part X c k) := by
  have key : ∀ (off : Fin 2 → ℕ) (h : ∀ i, off i + S128x4096.size i ≤ S4096x4096.size i), ldOff c k = off →
      (owns (c : Thread nD τ) (band a off h) fullShare (fun j => X ((Rect.unit (s := S4096x4096) off S128x4096.size h).emb j)) : sProp 𝕄)
      = owns (c : Thread nD τ) (ldSrc a c k) fullShare (part X c k) := by
    intro off h e; subst e; rfl
  exact key _ (stOff_inb c ⟨k.val, by omega⟩) (ldOff_eq c k)

/-- An input lends the chunks of the own quarter, and takes them back. -/
theorem input_split (a : Memref sig .tc .hbm S4096x4096 .f32) (X : S4096x4096.Idx → Elt F .f32) :
    (owns (c : Thread nD τ) a fullShare X : sProp 𝕄)
      ⊢ iprop(loads c a (part X c) 0 0 ∗ (loads c a (part X c) 8 8 -∗ owns (c : Thread nD τ) a fullShare X)) := by
  have h : ∀ i, (i = 0 ∨ i = 8) → loads c a (part X c) i i = bigSep Finset.univ fun k : Fin 8 => owns (c : Thread nD τ) (ldSrc a c k) fullShare (part X c k) := by
    intro i _
    exact bigSep_congr fun k _ => if_neg (by omega)
  rw [h 0 (.inl rfl), h 8 (.inr rfl)]
  let Φ : Fin 32 → sProp 𝕄 := fun j => owns (c : Thread nD τ) (a.slice (stR c j) (fun _ => rfl)) fullShare (fun i => X ((stR c j).emb i))
  have hs : (bigSep Finset.univ Φ : sProp 𝕄)
      = iprop((bigSep Finset.univ fun k : Fin 8 => owns (c : Thread nD τ) (ldSrc a c k) fullShare (part X c k))
        ∗ bigSep Finset.univ fun i : Fin 24 => Φ (finSumFinEquiv (m := 8) (n := 24) (.inr i))) := by
    rw [bigSep_univ_equiv (finSumFinEquiv (m := 8) (n := 24)) Φ, bigSep_univ_sum]
    refine congrArg (fun P : sProp 𝕄 => iprop(P ∗ _)) (bigSep_congr fun k _ => ?_)
    exact part_eq c a X k
  iintro H
  ihave H' := (owns_rects (c : Thread nD τ) a fullShare (stR c) (fun _ _ => rfl) (stR_disjoint c) (stR_cover c) X) $$ H
  ihave H'' := (show (bigSep Finset.univ fun t => owns (c : Thread nD τ) (a.slice (stR c t) (fun _ => rfl)) fullShare (fun j => X ((stR c t).emb j)) : sProp 𝕄)
    ⊢ _ from Entails.of_eq hs) $$ H'
  icases H'' with ⟨Hk, Hr⟩
  isplitl [Hk]; · iexact Hk
  iintro Hk
  iapply (owns_of_rects (c : Thread nD τ) a fullShare (stR c) (fun _ _ => rfl) (stR_disjoint c) (stR_cover c) X)
  iapply (show _ ⊢ (bigSep Finset.univ fun t => owns (c : Thread nD τ) (a.slice (stR c t) (fun _ => rfl)) fullShare (fun j => X ((stR c t).emb j)) : sProp 𝕄)
    from Entails.of_eq hs.symm)
  isplitl [Hk]; · iexact Hk
  iexact Hr

end Cert.KernelIdeal.RS

end
-- ==== Proof.RegroupIdeal.lean ====
/- The buffers before and after the body: the start state made of whole buffers and counters, and these made again of the
   end state. -/
module

public import proofs.«01_k».proof.Proof.MemIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (PA RE : Dev nD → Fin 8 → Vec F S128x4096 .f32) (GA : Dev nD → Vec F S1x4096 .f32)
variable (K : GSem nD τ sig → ℕ)

/-! ## Families of 32 as four families of eight -/

omit [FloatOps F] in
theorem bigSep_two (f : Fin 2 → sProp 𝕄) : bigSep Finset.univ f = iprop(f 0 ∗ f 1) := bigSep_fin_two f
omit [FloatOps F] in
theorem bigSep_four (f : Fin 4 → sProp 𝕄) : bigSep Finset.univ f = iprop(f 0 ∗ f 1 ∗ f 2 ∗ f 3) := by
  rw [show (Finset.univ : Finset (Fin 4)) = {0, 1, 2, 3} by decide, bigSep_insert (by decide), bigSep_insert (by decide),
    bigSep_insert (by decide), bigSep_singleton]; rfl

omit [FloatOps F] in
theorem bigSep_by {ix : Fin 4 × Fin 8 → Fin 32} (h : Function.Bijective ix) (f : Fin 32 → sProp 𝕄) :
    bigSep Finset.univ f = iprop((bigSep Finset.univ fun k => f (ix (0, k))) ∗ (bigSep Finset.univ fun k => f (ix (1, k)))
      ∗ (bigSep Finset.univ fun k => f (ix (2, k))) ∗ (bigSep Finset.univ fun k => f (ix (3, k)))) := by
  rw [bigSep_univ_equiv (Equiv.ofBijective ix h) f, bigSep_univ_prod, bigSep_four]; rfl

/-- The transfers by what they carry: raw chunks, results along y, results along z, forwarded chunks. -/
def tix (p : Fin 4 × Fin 8) : Fin 32 :=
  match p.1 with
  | 0 => tX p.2
  | 1 => tY p.2
  | 2 => tZ p.2
  | 3 => ⟨24 + p.2.val, by omega⟩
theorem tix_bij : Function.Bijective tix := by decide +kernel

/-- The stores by the quarter they read. -/
def jix (p : Fin 4 × Fin 8) : Fin 32 :=
  match p.1 with
  | 0 => tX p.2
  | 1 => if p.2.val < 4 then ⟨20 + p.2.val, by omega⟩ else ⟨8 + p.2.val, by omega⟩
  | 2 => if p.2.val < 4 then ⟨8 + p.2.val, by omega⟩ else ⟨12 + p.2.val, by omega⟩
  | 3 => ⟨24 + p.2.val, by omega⟩
theorem jix_bij : Function.Bijective jix := by decide +kernel

omit [FloatOps F] in
/-- The four landing quarters as the chunks that the 32 transfers write. -/
theorem landing : iprop(anyC (F := F) c recvM ∗ anyC c gyM ∗ anyC c gzM ∗ anyC c gdM)
    ⊢ bigSep Finset.univ fun t : Fin 32 => anyC (F := F) c (dstC t) := by
  rw [bigSep_by tix_bij]
  have h0 : ∀ k : Fin 8, anyC (F := F) c (dstC (tix (0, k))) = anyC c (rows recvM k) := fun k => by fin_cases k <;> rfl
  have h1 : ∀ k : Fin 8, anyC (F := F) c (dstC (tix (1, k))) = anyC c (rows gyM k) := fun k => by fin_cases k <;> rfl
  have h2 : ∀ k : Fin 8, anyC (F := F) c (dstC (tix (2, k))) = anyC c (rows gzM k) := fun k => by fin_cases k <;> rfl
  have h3 : ∀ k : Fin 8, anyC (F := F) c (dstC (tix (3, k))) = anyC c (rows gdM k) := fun k => by fin_cases k <;> rfl
  rw [bigSep_congr (s := Finset.univ) fun k _ => h0 k, bigSep_congr (s := Finset.univ) fun k _ => h1 k,
    bigSep_congr (s := Finset.univ) fun k _ => h2 k, bigSep_congr (s := Finset.univ) fun k _ => h3 k]
  iintro ⟨H0, H1, H2, H3⟩
  isplitl [H0]; · iapply (quarter_split c recvM) $$ H0
  isplitl [H1]; · iapply (quarter_split c gyM) $$ H1
  isplitl [H2]; · iapply (quarter_split c gzM) $$ H2
  iapply (quarter_split c gdM) $$ H3

/-! ## The store semaphores -/

omit [FloatOps F] in
theorem sems_first (f : Fin 32 → sProp 𝕄) :
    (bigSep Finset.univ fun j : Fin 32 => if j.val < 4 then f j else iprop(emp)) = bigSep Finset.univ fun i : Fin 4 => f ⟨i.val, by omega⟩ := by
  rw [bigSep_univ_equiv (finSumFinEquiv (m := 4) (n := 28)), bigSep_univ_sum,
    bigSep_congr (s := (Finset.univ : Finset (Fin 28)))
      (Φ := fun i => if (finSumFinEquiv (m := 4) (n := 28) (.inr i)).val < 4 then f (finSumFinEquiv (m := 4) (n := 28) (.inr i)) else iprop(emp))
      (Ψ := fun _ => (BI.emp : sProp 𝕄)) fun i _ =>
      if_neg (show ¬ (4 + i.val < 4) by omega), bigSep_emp_const]
  refine (BI.equiv_iff.mp BI.sep_emp).trans (bigSep_congr fun i _ => ?_)
  exact if_pos i.isLt

omit [FloatOps F] in
theorem sems_last (f : Fin 32 → sProp 𝕄) :
    (bigSep Finset.univ fun j : Fin 32 => if 28 ≤ j.val then f j else iprop(emp)) = bigSep Finset.univ fun i : Fin 4 => f ⟨28 + i.val, by omega⟩ := by
  rw [bigSep_univ_equiv (finSumFinEquiv (m := 28) (n := 4)), bigSep_univ_sum,
    bigSep_congr (s := (Finset.univ : Finset (Fin 28)))
      (Φ := fun i => if 28 ≤ (finSumFinEquiv (m := 28) (n := 4) (.inl i)).val then f (finSumFinEquiv (m := 28) (n := 4) (.inl i)) else iprop(emp))
      (Ψ := fun _ => (BI.emp : sProp 𝕄)) fun i _ =>
      if_neg (show ¬ (28 ≤ i.val) by omega), bigSep_emp_const]
  refine (BI.equiv_iff.mp BI.emp_sep).trans (bigSep_congr fun i _ => ?_)
  exact if_pos (show 28 ≤ 28 + i.val by omega)

/-- The counters of the local copies and of the departures at zero. -/
def localSems : sProp 𝕄 :=
  iprop((bigSep Finset.univ fun s : Fin 2 => semVal ((c : Thread nD τ), .dma (ldS s)) 0)
    ∗ (bigSep Finset.univ fun i : Fin 4 => semVal ((c : Thread nD τ), .dma (stS ⟨i.val, by omega⟩)) 0)
    ∗ bigSep Finset.univ fun t : Fin 32 => semVal ((c : Thread nD τ), .dma (sS t)) 0)

/-! ## Before -/

/-- The buffers that the kernel keeps for itself. -/
def scratch : sProp 𝕄 := iprop(anyC c lvM ∗ anyC c sendM ∗ anyC c recvM ∗ anyC c gyM ∗ anyC c gzM ∗ anyC c gdM)

theorem stores_start : iprop(anyC c outM ∗ bigSep Finset.univ fun i : Fin 4 => semVal ((c : Thread nD τ), .dma (stS ⟨i.val, by omega⟩)) 0)
    ⊢ stores (F := F) c PA RE GA 0 := by
  unfold stores
  rw [bigSep_congr (s := Finset.univ) (Φ := stFam c PA RE GA 0) (Ψ := stTodo c) fun j _ => (if_neg (by omega)).trans (if_neg (by omega))]
  unfold stTodo
  rw [bigSep_sep', sems_first fun j => semVal ((c : Thread nD τ), .dma (stS j)) 0]
  iintro ⟨Ho, Hs⟩
  isplitl [Ho]
  · iapply (any_split c outM (stR c) (fun _ _ => rfl) (stR_disjoint c) (stR_cover c)) $$ Ho
  iexact Hs

theorem raws_begin : anyC c sendM ⊢ raws (F := F) c PA 0 := by
  unfold raws
  rw [bigSep_congr (s := Finset.univ) fun (i : Fin 8) _ => if_neg (show ¬ i.val < 0 by omega)]
  exact quarter_split c sendM

theorem enter : iprop(scratch c ∗ localSems c ∗ anyC c outM)
    ⊢ iprop((bigSep Finset.univ fun t : Fin 32 => anyC c (dstC t)) ∗ (bigSep Finset.univ fun t : Fin 32 => semVal ((c : Thread nD τ), .dma (sS t)) 0)
      ∗ stores (F := F) c PA RE GA 0 ∗ free c 0 ∗ free c 1 ∗ raws c PA 0) := by
  unfold scratch localSems free
  rw [bigSep_two]
  iintro ⟨⟨Hl, Hs, Hq⟩, ⟨⟨Hv0, Hv1⟩, Hst, Hss⟩, Ho⟩
  ihave HL := (slots_split (F := F) c) $$ Hl
  icases HL with ⟨Hl0, Hl1⟩
  isplitl [Hq]; · iapply (landing (F := F) c) $$ Hq
  isplitl [Hss]; · iexact Hss
  isplitl [Ho Hst]
  · iapply (stores_start c PA RE GA)
    isplitl [Ho]; · iexact Ho
    iexact Hst
  isplitl [Hl0 Hv0]
  · isplitl [Hl0]; · iexact Hl0
    iexact Hv0
  isplitl [Hl1 Hv1]
  · isplitl [Hl1]; · iexact Hl1
    iexact Hv1
  iapply (raws_begin c PA) $$ Hs

/-! ## After -/

instance out_nonempty : Nonempty (Elt F .bf16) := (inferInstance : ∀ e, Nonempty (Elt F e)) .bf16
/-- The result of device `c`: on the rows of store `j` what that store writes. -/
def outV : S4096x4096.Idx → Elt F .bf16 := (glue (stR c) (stR_disjoint c) (fun j => kept PA RE GA c j)).choose
theorem outV_at (j : Fin 32) (i : (stR c j).shape.Idx) : outV c PA RE GA ((stR c j).emb i) = kept PA RE GA c j i :=
  (glue (stR c) (stR_disjoint c) (fun j => kept PA RE GA c j)).choose_spec j i

section Join
variable {sp : Space} {s : Shape} {e : EltTy} (m : Memref sig .tc sp s e)
omit [FloatOps F] in
theorem join_two (X Y : s.Idx → Elt F e) :
    iprop(owns (c : Thread nD τ) m fullShare.left X ∗ owns (c : Thread nD τ) m fullShare.right Y) ⊢ anyC (F := F) c m := by
  iintro H
  iapply (anyC_intro c m X)
  iapply (owns_unhalve c m fullShare X Y) $$ H
omit [FloatOps F] in
theorem join_three (X Y Z : s.Idx → Elt F e) :
    iprop(owns (c : Thread nD τ) m fullShare.left X ∗ owns (c : Thread nD τ) m fullShare.right.left Y
      ∗ owns (c : Thread nD τ) m fullShare.right.right Z) ⊢ anyC (F := F) c m := by
  iintro ⟨H1, H2⟩
  iapply (join_two c m X Y)
  isplitl [H1]; · iexact H1
  iapply (owns_unhalve c m fullShare.right Y Z) $$ H2
end Join

/-- What departure `t` leaves of its chunk. -/
def leftT (t : Fin 32) : sProp 𝕄 :=
  if t.val < 8 then iprop(emp) else owns (c : Thread nD τ) (srcC t) (shT t) (sent PA RE GA c t)
/-- What store `j` leaves of its chunk. -/
def leftS (j : Fin 32) : sProp 𝕄 := owns (c : Thread nD τ) (stSrc j) (shS j) (kept PA RE GA c j)

/-- The send buffer, chunk by chunk: a share from each of the two transfers and one from the store. -/
theorem back_send (k : Fin 8) : iprop(leftT c PA RE GA (tix (1, k)) ∗ leftT c PA RE GA (tix (2, k)) ∗ leftS c PA RE GA (jix (0, k)))
    ⊢ anyC (F := F) c (rows sendM k) := by
  have h1 : leftT c PA RE GA (tix (1, k)) = owns (c : Thread nD τ) (rows sendM k) fullShare.left (sent PA RE GA c (tix (1, k))) := by
    fin_cases k <;> rfl
  have h2 : leftT c PA RE GA (tix (2, k)) = owns (c : Thread nD τ) (rows sendM k) fullShare.right.left (sent PA RE GA c (tix (2, k))) := by
    fin_cases k <;> rfl
  have h3 : leftS c PA RE GA (jix (0, k)) = owns (c : Thread nD τ) (rows sendM k) fullShare.right.right (kept PA RE GA c (jix (0, k))) := by
    fin_cases k <;> rfl
  rw [h1, h2, h3]
  exact join_three c (rows sendM k) _ _ _

/-- The quarters of the y- and the z-neighbour: one of the two chunks `k` was forwarded. -/
theorem back_near (k : Fin 8) : iprop(leftT c PA RE GA (tix (3, k)) ∗ leftS c PA RE GA (jix (1, k)) ∗ leftS c PA RE GA (jix (2, k)))
    ⊢ iprop(anyC (F := F) c (rows gyM k) ∗ anyC c (rows gzM k)) := by
  by_cases h : k.val < 4
  · have h1 : leftT c PA RE GA (tix (3, k)) = owns (c : Thread nD τ) (rows gzM k) fullShare.left (sent PA RE GA c (tix (3, k))) := by
      fin_cases k <;> first | exact absurd h (by decide) | rfl
    have h2 : leftS c PA RE GA (jix (1, k)) = owns (c : Thread nD τ) (rows gyM k) fullShare (kept PA RE GA c (jix (1, k))) := by
      fin_cases k <;> first | exact absurd h (by decide) | rfl
    have h3 : leftS c PA RE GA (jix (2, k)) = owns (c : Thread nD τ) (rows gzM k) fullShare.right (kept PA RE GA c (jix (2, k))) := by
      fin_cases k <;> first | exact absurd h (by decide) | rfl
    rw [h1, h2, h3]
    iintro ⟨Ht, Hy, Hz⟩
    isplitl [Hy]; · iapply (anyC_intro c (rows gyM k)) $$ Hy
    iapply (join_two c (rows gzM k))
    isplitl [Ht]; · iexact Ht
    iexact Hz
  · have h1 : leftT c PA RE GA (tix (3, k)) = owns (c : Thread nD τ) (rows gyM k) fullShare.left (sent PA RE GA c (tix (3, k))) := by
      fin_cases k <;> first | exact absurd (by decide) h | rfl
    have h2 : leftS c PA RE GA (jix (1, k)) = owns (c : Thread nD τ) (rows gyM k) fullShare.right (kept PA RE GA c (jix (1, k))) := by
      fin_cases k <;> first | exact absurd (by decide) h | rfl
    have h3 : leftS c PA RE GA (jix (2, k)) = owns (c : Thread nD τ) (rows gzM k) fullShare (kept PA RE GA c (jix (2, k))) := by
      fin_cases k <;> first | exact absurd (by decide) h | rfl
    rw [h1, h2, h3]
    iintro ⟨Ht, Hy, Hz⟩
    isplitl [Ht Hy]
    · iapply (join_two c (rows gyM k))
      isplitl [Ht]; · iexact Ht
      iexact Hy
    iapply (anyC_intro c (rows gzM k)) $$ Hz

theorem back_far (k : Fin 8) : leftS c PA RE GA (jix (3, k)) ⊢ anyC (F := F) c (rows gdM k) := by
  have h1 : leftS c PA RE GA (jix (3, k)) = owns (c : Thread nD τ) (rows gdM k) fullShare (kept PA RE GA c (jix (3, k))) := by
    fin_cases k <;> rfl
  rw [h1]
  exact anyC_intro c (rows gdM k) _

theorem back : iprop((bigSep Finset.univ fun t => leftT c PA RE GA t) ∗ bigSep Finset.univ fun j => leftS c PA RE GA j)
    ⊢ iprop(anyC (F := F) c sendM ∗ anyC c gyM ∗ anyC c gzM ∗ anyC c gdM) := by
  rw [bigSep_by tix_bij, bigSep_by jix_bij]
  iintro ⟨⟨-, HY, HZ, HF⟩, HS, HGY, HGZ, HGD⟩
  isplitl [HY HZ HS]
  · iapply (quarter_join c sendM)
    iapply (show iprop((bigSep Finset.univ fun k => leftT c PA RE GA (tix (1, k))) ∗ (bigSep Finset.univ fun k => leftT c PA RE GA (tix (2, k)))
        ∗ bigSep Finset.univ fun k => leftS c PA RE GA (jix (0, k))) ⊢ bigSep Finset.univ fun k => anyC (F := F) c (rows sendM k) by
      rw [← bigSep_sep', ← bigSep_sep']
      exact bigSep_mono fun k _ => back_send c PA RE GA k)
    isplitl [HY]; · iexact HY
    isplitl [HZ]; · iexact HZ
    iexact HS
  ihave HN := (show iprop((bigSep Finset.univ fun k => leftT c PA RE GA (tix (3, k))) ∗ (bigSep Finset.univ fun k => leftS c PA RE GA (jix (1, k)))
        ∗ bigSep Finset.univ fun k => leftS c PA RE GA (jix (2, k)))
      ⊢ iprop((bigSep Finset.univ fun k => anyC (F := F) c (rows gyM k)) ∗ bigSep Finset.univ fun k => anyC c (rows gzM k)) by
    rw [← bigSep_sep', ← bigSep_sep', ← bigSep_sep']
    exact bigSep_mono fun k _ => back_near c PA RE GA k) $$ [HF HGY HGZ]
  · isplitl [HF]; · iexact HF
    isplitl [HGY]; · iexact HGY
    iexact HGZ
  icases HN with ⟨HNY, HNZ⟩
  isplitl [HNY]; · iapply (quarter_join c gyM) $$ HNY
  isplitl [HNZ]; · iapply (quarter_join c gzM) $$ HNZ
  iapply (quarter_join c gdM)
  iapply (show (bigSep Finset.univ fun k => leftS c PA RE GA (jix (3, k))) ⊢ bigSep Finset.univ fun k => anyC (F := F) c (rows gdM k) from
    bigSep_mono fun k _ => back_far c PA RE GA k) $$ HGD

theorem deps_end : deps (F := F) c PA RE GA 32 32
    ⊢ iprop((bigSep Finset.univ fun t : Fin 32 => semVal ((c : Thread nD τ), .dma (sS t)) 0) ∗ bigSep Finset.univ fun t => leftT c PA RE GA t) := by
  have h : ∀ t : Fin 32, rkS t < 32 := by decide +kernel
  unfold deps
  rw [bigSep_congr (s := Finset.univ) (Φ := depFam c PA RE GA 32 32) (Ψ := fun t => iprop(semVal ((c : Thread nD τ), .dma (sS t)) 0 ∗ leftT c PA RE GA t))
    fun t _ => if_pos (h t), bigSep_sep']

theorem stores_end : stores (F := F) c PA RE GA 36
    ⊢ iprop(owns (c : Thread nD τ) outM fullShare (outV c PA RE GA) ∗ (bigSep Finset.univ fun j => leftS c PA RE GA j)
      ∗ bigSep Finset.univ fun i : Fin 4 => semVal ((c : Thread nD τ), .dma (stS ⟨i.val, by omega⟩)) 0) := by
  have h : ∀ i : Fin 4, stS ⟨28 + i.val, by omega⟩ = stS ⟨i.val, by omega⟩ := by decide +kernel
  unfold stores
  rw [bigSep_congr (s := Finset.univ) (Φ := stFam c PA RE GA 36)
    (Ψ := fun j => iprop((owns (c : Thread nD τ) (stDst c j) fullShare (kept PA RE GA c j) ∗ leftS c PA RE GA j)
      ∗ (if 28 ≤ j.val then semVal ((c : Thread nD τ), .dma (stS j)) 0 else iprop(emp)))) fun j _ => if_pos (by omega),
    bigSep_sep', bigSep_sep', sems_last fun j => semVal ((c : Thread nD τ), .dma (stS j)) 0,
    bigSep_congr (s := Finset.univ) fun (i : Fin 4) _ => congrArg (fun q => (semVal ((c : Thread nD τ), .dma q) 0 : sProp 𝕄)) (h i)]
  iintro ⟨⟨Hd, Hs⟩, Hv⟩
  isplitl [Hd]
  · iapply (owns_glue c outM (stR c) (fun _ _ => rfl) (stR_disjoint c) (stR_cover c) (fun j => kept PA RE GA c j) (outV c PA RE GA)
      (outV_at c PA RE GA)) $$ Hd
  isplitl [Hs]; · iexact Hs
  iexact Hv

theorem leave : iprop(deps (F := F) c PA RE GA 32 32 ∗ stores c PA RE GA 36 ∗ free c 0 ∗ free c 1 ∗ spent c 8)
    ⊢ iprop(scratch c ∗ localSems c ∗ owns (c : Thread nD τ) outM fullShare (outV c PA RE GA)) := by
  unfold scratch localSems free spent
  rw [bigSep_two, bigSep_congr (s := Finset.univ) (Ψ := fun i : Fin 8 => anyC (F := F) c (rows recvM i)) fun (i : Fin 8) _ => if_pos i.isLt]
  iintro ⟨HD, HS, ⟨Hl0, Hv0⟩, ⟨Hl1, Hv1⟩, HR⟩
  ihave HD' := (deps_end c PA RE GA) $$ HD
  icases HD' with ⟨Hss, HT⟩
  ihave HS' := (stores_end c PA RE GA) $$ HS
  icases HS' with ⟨Ho, HL, Hst⟩
  ihave HB := (back c PA RE GA) $$ [HT HL]
  · isplitl [HT]; · iexact HT
    iexact HL
  icases HB with ⟨Hsend, Hgy, Hgz, Hgd⟩
  isplitl [Hl0 Hl1 Hsend Hgy Hgz Hgd HR]
  · isplitl [Hl0 Hl1]
    · iapply (slots_join (F := F) c)
      isplitl [Hl0]; · iexact Hl0
      iexact Hl1
    isplitl [Hsend]; · iexact Hsend
    isplitl [HR]; · iapply (quarter_join c recvM) $$ HR
    isplitl [Hgy]; · iexact Hgy
    isplitl [Hgz]; · iexact Hgz
    iexact Hgd
  isplitr [Ho]
  · isplitl [Hv0 Hv1]
    · isplitl [Hv0]; · iexact Hv0
      iexact Hv1
    isplitl [Hst]; · iexact Hst
    iexact Hss
  iexact Ho

end Cert.KernelIdeal.RS

end
-- ==== Proof.TextEqIdeal.lean ====
/- The printed body is the short program of Proof/Text.lean. -/
module

public import proofs.«01_k».proof.Proof.TextIdeal

@[expose] public section

noncomputable section

namespace Cert.KernelIdeal.RS

open Idealize.ShloMosaic Idealize.SL.Sem Cert.KernelIdeal.Gen

variable {F : FTy → Type} [FloatOps F]

set_option maxRecDepth 65536 in
set_option maxHeartbeats 4000000 in
theorem text_eq :
    (cc0_body_skel paM (Memref.isWhole_whole _) reM (Memref.isWhole_whole _) gaM (Memref.isWhole_whole _)
      outM (Memref.isWhole_whole _) lvM (Memref.isWhole_whole _) sendM (Memref.isWhole_whole _)
      recvM (Memref.isWhole_whole _) gyM (Memref.isWhole_whole _) gzM (Memref.isWhole_whole _)
      gdM (Memref.isWhole_whole _) cc0_scratch6 cc0_scratch7 cc0_scratch8 cc0_scratch9 cc0_scratch10
      cc0_scratch11 cc0_scratch12 cc0_scratch13 cc0_scratch14 cc0_scratch15 cc0_scratch16 cc0_scratch17
      : Prog (Eff F) PUnit) = text := by
  chain_rfl

end Cert.KernelIdeal.RS

end
-- ==== Proof.RegionIdeal.lean ====
/- The kernel's call as one region of the program: what the pipeline keeps around the body, the body's obligation, what
   the region takes from the program and what it gives back. -/
module

public import proofs.«01_k».proof.Proof.RegroupIdeal
public import proofs.«01_k».proof.Proof.TextEqIdeal
public import proofs.«01_k».proof.Proof.Gen.KernelIdeal.Frame
public import Idealize.ShloMosaic.Lib.Pipeline.RegionTalk

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The arrays -/

/-- The arrays of device `c` when the kernel is called: after the two reshapes. -/
abbrev V₁ (c : Dev nD) : Valuation τ sig (Elt F) := StableHlo.after hostOps0 (fun b => m (c, b))
/-- The partial product, the residual and the gain of device `c`, and the chunks of its quarter. -/
abbrev P₁ (c : Dev nD) : S4096x4096.Idx → Elt F .f32 := V₁ m c (main_v1 : DevRef τ sig)
abbrev R₁ (c : Dev nD) : S4096x4096.Idx → Elt F .f32 := V₁ m c (main_arg1 : DevRef τ sig)
abbrev GA₁ (c : Dev nD) : Vec F S1x4096 .f32 := V₁ m c (main_v2 : DevRef τ sig)
abbrev PA₁ (c : Dev nD) (k : Fin 8) : Vec F S128x4096 .f32 := part (P₁ m c) c k
abbrev RE₁ (c : Dev nD) (k : Fin 8) : Vec F S128x4096 .f32 := part (R₁ m c) c k
/-- The result of device `c`. -/
abbrev out₁ (c : Dev nD) : S4096x4096.Idx → Elt F .bf16 := outV c (PA₁ m) (RE₁ m) (GA₁ m)
/-- Its arrays after the call. -/
abbrev V₂ (c : Dev nD) : Valuation τ sig (Elt F) := Function.update (V₁ m c) (main_v3 : DevRef τ sig) (out₁ m c)

/-! ## What the region starts from, and its ghost state -/

section
variable (K : GSem nD τ sig → ℕ) (c : Dev nD)

/-- The tokens of device `c`: the signals and the arrivals it will pay for. -/
def tokens : sProp 𝕄 :=
  iprop((bigSep Finset.univ fun d : Fin 3 => iprop(dutyTok ER (bcell (nb d c)) 0 d ∗ reached ER (bcell (nb d c)) 0))
    ∗ (bigSep Finset.univ fun t : Fin 32 => dutyTok ER (rcell (tgt c t) t) 0 0)
    ∗ atPos ER (bcell c) 0 ∅ 0)

/-- From the start of the program: the arrival cells not open yet. -/
def ghost : sProp 𝕄 :=
  iprop(invs (PA₁ m) (RE₁ m) (GA₁ m) K ∗ (bigSep Finset.univ fun t : Fin 32 => openTok ER (rcell c t)) ∗ tokens c)
/-- With the arrival cells open. -/
def opened : sProp 𝕄 :=
  iprop(ctx (PA₁ m) (RE₁ m) (GA₁ m) K ∗ (bigSep Finset.univ fun t : Fin 32 => reached ER (rcell c t) 0) ∗ tokens c
    ∗ cred (tallyAt (bcell c) () 3) ∗ arrs c 0)
end

/-- What the program keeps for the region, and what enters the region. -/
def Tk (c : Dev nD) : sProp 𝕄 :=
  iprop((∃ K, ghost m K c) ∗ cred (tallyAt (bcell c) () 3) ∗ bigSep Finset.univ fun t : Fin 32 => cred (tallyAt (rcell c t) () N))
def Xk (c : Dev nD) : sProp 𝕄 := iprop(∃ K, opened m K c)
def Yk (c : Dev nD) : sProp 𝕄 := semVal (bcell c) 0

/-- What surrounds the body before it and after it. -/
def Φ₀ (c : Dev nD) : sProp 𝕄 :=
  iprop(Xk m c ∗ scratch c ∗ localSems c ∗ owns (c : Thread nD τ) paM fullShare (P₁ m c) ∗ owns (c : Thread nD τ) reM fullShare (R₁ m c)
    ∗ anyC c outM ∗ ∃ r, prngReg c r)
def Φ₁ (c : Dev nD) : sProp 𝕄 :=
  iprop(Yk c ∗ (bigSep Finset.univ fun t : Fin 32 => semVal (rcell c t) 0) ∗ scratch c ∗ localSems c
    ∗ owns (c : Thread nD τ) paM fullShare (P₁ m c) ∗ owns (c : Thread nD τ) reM fullShare (R₁ m c)
    ∗ owns (c : Thread nD τ) outM fullShare (out₁ m c) ∗ ∃ r, prngReg c r)

/-! ## The proof data -/

def dat0 (c : Dev nD) : Dat τ (Elt F) Unit ℕ UU ℕ cfg0 c where
  A w := V₁ m c (Pipeline.arrRef spec0 w : DevRef τ sig)
  after w t := match w with
    | ⟨0, _⟩ => iblk m c 0 t
  Φ t := if t.val = 0 then Φ₀ m c else Φ₁ m c
  q _ := fullShare
  owed t := if t.val = 0 then bowed c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 (F := F) m c).owed t0_0.castSucc = bowed c 0 := by
  show (if (t0_0.castSucc : Fin (cfg0.N + 1)).val = 0 then bowed c 0 else 0) = bowed c 0; exact if_pos rfl
theorem owed_zero (c : Dev nD) : (pdats (F := F) m 0 c).owed 0 = bowed c 0 := by
  show (if (0 : Fin (cfg0.N + 1)).val = 0 then bowed c 0 else 0) = bowed c 0; exact if_pos rfl
theorem owed_last (c : Dev nD) : (pdats (F := F) m 0 c).owed (Fin.last _) = 0 := by
  show (if (Fin.last cfg0.N).val = 0 then bowed c 0 else 0) = 0
  rw [Fin.val_last, if_neg (by rw [show cfg0.N = 1 from N_0]; decide)]

theorem owesAt_from (c : Dev nD) (t : Fin (cfg0.N + 1)) (O : CellTallies nD τ sig Unit) (h : (dat0 (F := F) m c).owed t = O) :
    owing c O ⊢ ((dat0 m c).owesAt () t : sProp 𝕄) := by
  unfold owing Dat.owesAt Pipeline.owesWithin Dat.bound
  rw [h, show (dat0 m c).recorded t = Set.univ from rfl]
  iintro ⟨%W, HO⟩; iexists W; isplitr; · ipureintro; exact fun _ _ => Or.inl trivial
  iexact HO
theorem owesAt_to (c : Dev nD) (t : Fin (cfg0.N + 1)) (O : CellTallies nD τ sig Unit) (h : (dat0 (F := F) m c).owed t = O) :
    ((dat0 m c).owesAt () t : sProp 𝕄) ⊢ owing c O := by
  unfold owing Dat.owesAt Pipeline.owesWithin; rw [h]
  iintro ⟨%W, -, HO⟩; iexists W; iexact HO

theorem idx_gain : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem emb_gain (t : Fin cfg0.N) (j : S1x4096.Idx) : ((cfg0.win 0).blk t).view.emb j = j := by
  obtain ⟨e0, e1⟩ := idx_gain t
  funext a; apply Fin.ext
  match a with
  | ⟨0, _⟩ => show win0_0.index t (0 : Fin 2) * 1 + 1 * (j 0).val = (j 0).val; omega
  | ⟨1, _⟩ => show win0_0.index t (1 : Fin 2) * 4096 + 1 * (j 1).val = (j 1).val; omega

theorem iblk_gain (c : Dev nD) (t : Fin cfg0.N) : (iblk m c 0 t : S1x4096.Idx → Elt F .f32) = GA₁ m c := by
  funext j
  show V₁ m c (main_v2 : DevRef τ sig) (((cfg0.win 0).blk t).view.emb j) = _
  rw [emb_gain]

theorem before_gain (c : Dev nD) (t : Fin cfg0.N) (d) : ((dat0 (F := F) m c).before 0 t d : S1x4096.Idx → Elt F .f32) = GA₁ m c :=
  (((dat0 m c).before_in_eq_fetched 0 rfl (fun _ => rfl) (fun _ _ _ => rfl) (fun t => by
      show (cfg0.win 0).cut (cfg0.grid.coords t) (iblk m c 0 t) = _; unfold Dat.blockOf iblk; rfl) t d).trans
    (by unfold Dat.fetched Dat.blockOf; rfl : _ = iblk m c 0 t)).trans (iblk_gain m c t)

/-! ## The gain's buffer, read as a whole -/

theorem gain_eq (c : Dev nD) (GA : Dev nD → Vec F S1x4096 .f32) :
    (owns (c : Thread nD τ) gaM fullShare (GA c) : sProp 𝕄) = gain c GA := by
  let r : Unit → Rect S1x4096 := fun _ => Rect.unit (s := S1x4096) ![0, 0] S1x4096.size inb_S1x4096_S1x4096_0_0
  have hemb : ∀ j : S1x4096.Idx, (r ()).emb j = j := fun j => by
    funext a; apply Fin.ext
    match a with
    | ⟨0, _⟩ => show 0 + 1 * (j 0).val = (j 0).val; omega
    | ⟨1, _⟩ => show 0 + 1 * (j 1).val = (j 1).val; omega
  have hone : (bigSep Finset.univ fun t : Unit => owns (c : Thread nD τ) (gaM.slice (r t) (fun _ => rfl)) fullShare (fun j => GA c ((r t).emb j)) : sProp 𝕄)
      = gain c GA := by
    rw [bigSep_one () (fun j h => absurd (Subsingleton.elim j ()) h)]
    unfold gain
    congr 1
    funext j; rw [hemb]
  rw [← hone]
  have hd : ∀ t t' : Unit, t ≠ t' → Disjoint (r t).set (r t').set := fun t t' h => absurd (Subsingleton.elim t t') h
  have hc : (Finset.univ.biUnion fun t => (r t).set) = Finset.univ := Finset.eq_univ_of_forall fun x =>
    Finset.mem_biUnion.mpr ⟨(), Finset.mem_univ _, Rect.mem_set_unit.mpr fun a => by
      match a with
      | ⟨0, _⟩ => exact ⟨Nat.zero_le _, by show (x 0).val < 0 + 1; have := (x 0).isLt; exact (Nat.zero_add 1).symm ▸ this⟩
      | ⟨1, _⟩ => exact ⟨Nat.zero_le _, by show (x 1).val < 0 + 4096; have := (x 1).isLt; exact (Nat.zero_add 4096).symm ▸ this⟩⟩
  exact BI.equiv_iff.mp ⟨owns_rects (c : Thread nD τ) gaM fullShare r (fun _ _ => rfl) hd hc (GA c),
    owns_of_rects (c : Thread nD τ) gaM fullShare r (fun _ _ => rfl) hd hc (GA c)⟩

/-! ## The body's obligation -/

omit [FloatOps F] in
theorem zip {ι : Type} [Fintype ι] (A B : ι → sProp 𝕄) :
    iprop(bigSep Finset.univ A ∗ bigSep Finset.univ B) ⊢ bigSep Finset.univ fun t => iprop(A t ∗ B t) :=
  Entails.of_eq (bigSep_sep Finset.univ A B).symm

theorem arrs_all (c : Dev nD) : (arrs c 32 : sProp 𝕄) = bigSep Finset.univ fun t : Fin 32 => semVal (rcell c t) 0 :=
  bigSep_congr fun t _ => if_pos ((by decide +kernel : ∀ t : Fin 32, rkR t < 32) t)

theorem run_body (c : Dev nD) {Kt : PUnit → sProp 𝕄} :
    iprop(Φ₀ m c ∗ owing c (bowed c 0) ∗ owns (c : Thread nD τ) gaM fullShare (GA₁ m c))
      ⊢ iprop(((Φ₁ m c ∗ owing c 0 ∗ owns (c : Thread nD τ) gaM fullShare (GA₁ m c)) -∗ Kt ⟨⟩) -∗ run c text Kt) := by
  rw [gain_eq]
  unfold Φ₀ Xk opened tokens
  iintro ⟨⟨⟨%K, #Hctx, #HrR, ⟨HtB, HtR, Hat⟩, Hcr, Harr⟩, Hscr, Hls, HP, HR, Hout, Hprng⟩, HO, Hg⟩ Hk
  ihave HE := (enter (F := F) c (PA₁ m) (RE₁ m) (GA₁ m)) $$ [Hscr Hls Hout]
  · isplitl [Hscr]; · iexact Hscr
    isplitl [Hls] <;> iassumption
  icases HE with ⟨Hland, HsS, Hst, Hf0, Hf1, Hraw⟩
  ihave HP' := (input_split c paM (P₁ m c)) $$ HP
  icases HP' with ⟨HlP, HbP⟩
  ihave HR' := (input_split c reM (R₁ m c)) $$ HR
  icases HR' with ⟨HlR, HbR⟩
  iapply (run_text c (PA₁ m) (RE₁ m) (GA₁ m) K) $$ [Hland HsS HtB HtR Hat Hcr Harr Hst HlP HlR Hf0 Hf1 Hraw Hg HO]
  · unfold startState before
    isplitr; · iexact Hctx
    isplitl [Hland HtB HtR HsS Hat Hcr]
    · isplitl [Hland]
      · iapply (zip (fun t : Fin 32 => anyC c (dstC t)) (fun t : Fin 32 => reached ER (rcell c t) 0))
        isplitl [Hland]; · iexact Hland
        iexact HrR
      isplitl [HtB]; · iexact HtB
      isplitl [HtR HsS]
      · iapply (zip (fun t : Fin 32 => dutyTok ER (rcell (tgt c t) t) 0 0)
          (fun t : Fin 32 => semVal ((c : Thread nD τ), .dma (sS t)) 0))
        isplitl [HtR] <;> iassumption
      isplitl [Hat] <;> iassumption
    isplitl [Harr]; · iexact Harr
    isplitl [Hst]; · iexact Hst
    isplitl [HlP]; · iexact HlP
    isplitl [HlR]; · iexact HlR
    isplitl [Hf0]; · iexact Hf0
    isplitl [Hf1]; · iexact Hf1
    isplitl [Hraw]; · iexact Hraw
    isplitl [Hg]; · iexact Hg
    iexact HO
  unfold endState
  iintro ⟨Harr, Hdep, Hst, HlP, HlR, Hf0, Hf1, Hsp, Hg, Hbar, HO⟩
  ihave HL := (leave (F := F) c (PA₁ m) (RE₁ m) (GA₁ m)) $$ [Hdep Hst Hf0 Hf1 Hsp]
  · isplitl [Hdep]; · iexact Hdep
    isplitl [Hst]; · iexact Hst
    isplitl [Hf0]; · iexact Hf0
    isplitl [Hf1] <;> iassumption
  icases HL with ⟨Hscr, Hls, Hout⟩
  iapply Hk
  isplitr [HO Hg]
  · unfold Φ₁ Yk
    isplitl [Hbar]; · iexact Hbar
    isplitl [Harr]; · rw [← arrs_all]; iexact Harr
    isplitl [Hscr]; · iexact Hscr
    isplitl [Hls]; · iexact Hls
    isplitl [HlP HbP]; · iapply HbP $$ HlP
    isplitl [HlR HbR]; · iapply HbR $$ HlR
    isplitl [Hout] <;> iassumption
  isplitl [HO] <;> iassumption

set_option maxRecDepth 65536 in
theorem body_obligation (c : Dev nD) : BodyObligation (dat0 (F := F) m c) defs₀ 𝒱₀ () Set.univ := fun t => by
  obtain rfl := fin_N0 t
  rw [bigSep_W0, bigSep_W0]
  show iprop(Φ₀ m c ∗ (dat0 m c).owesAt () t0_0.castSucc
      ∗ ∃ d, owns (c : Thread nD τ) gaM fullShare ((dat0 m c).before 0 t0_0 d))
    ⊢ run c (bodyAt0 t0_0) fun _ => iprop(Φ₁ m c ∗ (dat0 m c).owesAt () t0_0.succ
      ∗ owns (c : Thread nD τ) gaM fullShare (iblk m c 0 t0_0))
  have hb : (bodyAt0 t0_0 : Prog (Eff F) PUnit) = text := by
    unfold bodyAt0; rw [cc0_body_eq_skeleton]; exact text_eq
  rw [hb]
  iintro ⟨HΦ, HO, ⟨%d, Hg⟩⟩
  rw [before_gain]
  ihave HO' := (owesAt_to m c _ _ (owed_first m c)) $$ HO
  iapply (run_body m c) $$ [HΦ HO' Hg]
  · isplitl [HΦ]; · iexact HΦ
    isplitl [HO'] <;> iassumption
  iintro ⟨HΦ, HO, Hg⟩
  isplitl [HΦ]; · iexact HΦ
  isplitl [HO]; · iapply (owesAt_from m c t0_0.succ 0 (owed_last m c)) $$ HO
  rw [iblk_gain]; iexact Hg

end Cert.KernelIdeal.RS

end
-- ==== Proof.CallIdeal.lean ====
/- The region's contract: the kernel's own counters, how its arrival cells open when it starts, what enters it and what
   leaves it. -/
module

public import proofs.«01_k».proof.Proof.RegionIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The kernel's own counters -/

abbrev Own : Type := Fin 2 ⊕ (Fin 4 ⊕ (Fin 32 ⊕ Fin 32))
def osem : Own → SemLoc sig
  | .inl s => .dma (ldS s)
  | .inr (.inl i) => .dma (stS ⟨i.val, by omega⟩)
  | .inr (.inr (.inl t)) => .dma (sS t)
  | .inr (.inr (.inr t)) => .dma (rS t)

set_option maxRecDepth 65536 in
theorem osem_facts : Pipeline.OwnSemFacts spec0 osem := by decide +kernel

section
variable (c : Dev nD)

omit [FloatOps F] in
theorem split_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := bigSep_univ_sum Φ

omit [FloatOps F] in
theorem own_sems : (Pipeline.ownSems0 osem c : sProp 𝕄)
    = iprop((bigSep Finset.univ fun s : Fin 2 => semVal ((c : Thread nD τ), .dma (ldS s)) 0)
      ∗ (bigSep Finset.univ fun i : Fin 4 => semVal ((c : Thread nD τ), .dma (stS ⟨i.val, by omega⟩)) 0)
      ∗ (bigSep Finset.univ fun t : Fin 32 => semVal ((c : Thread nD τ), .dma (sS t)) 0)
      ∗ bigSep Finset.univ fun t : Fin 32 => semVal (rcell c t) 0) := by
  unfold Pipeline.ownSems0
  rw [split_sum, split_sum, split_sum]
  rfl

/-! ## The buffers -/

/-- What the kernel's call touches of the program's arrays beside the gain, and what it addresses itself. -/
abbrev Sr : Finset (DevRef τ sig) := {Proc.devRef .tc main_arg0, Proc.devRef .tc main_arg1, Proc.devRef .tc main_arg2, Proc.devRef .tc main_v1, Proc.devRef .tc main_v3}
abbrev Hs : Finset (DevRef τ sig) := {Proc.devRef .tc main_arg1, Proc.devRef .tc main_v1, Proc.devRef .tc main_v3}

theorem held_own (W : Valuation τ sig (Elt F)) : (StableHlo.held (c : Thread nD τ) Hs W : sProp 𝕄)
    = iprop(owns (c : Thread nD τ) reM fullShare (W (main_arg1 : DevRef τ sig)) ∗ owns (c : Thread nD τ) paM fullShare (W (main_v1 : DevRef τ sig))
      ∗ owns (c : Thread nD τ) outM fullShare (W (main_v3 : DevRef τ sig))) := by
  unfold StableHlo.held
  rw [bigSep_eq_bigSepL_of_eq [Proc.devRef .tc main_arg1, Proc.devRef .tc main_v1, Proc.devRef .tc main_v3] (by decide) (by decide),
    owns_whole, owns_whole, owns_whole]
  rfl

theorem any_whole (b : Ref sig .tc) : (iprop(∃ f : Buf (Elt F) ((c : Thread nD τ).loc b), ((c : Thread nD τ).loc b) ↦{fullShare} f) : sProp 𝕄)
    = anyC c (Memref.whole b) := by
  unfold anyC
  simp only [owns_whole]

theorem rest_scratch : (Pipeline.scopedRest (Ix := Unit) (Name := ℕ) (U := UU) (Lvl := ℕ) (Val := Elt F) spec0 c : sProp 𝕄) = scratch c := by
  rw [scopedRest0_eq, any_whole, any_whole, any_whole, any_whole, any_whole, any_whole]
  rfl

/-! ## Opening the arrival cells -/

omit [FloatOps F] in
theorem unzip {ι : Type} [Fintype ι] (A B : ι → sProp 𝕄) :
    (bigSep Finset.univ fun t => iprop(A t ∗ B t)) ⊢ iprop(bigSep Finset.univ A ∗ bigSep Finset.univ B) :=
  Entails.of_eq (bigSep_sep Finset.univ A B)

theorem open_recv (K : GSem nD τ sig → ℕ) :
    iprop(invs (PA₁ m) (RE₁ m) (GA₁ m) K ∗ (bigSep Finset.univ fun t : Fin 32 => openTok ER (rcell c t))
        ∗ bigSep Finset.univ fun t : Fin 32 => semVal (rcell c t) 0)
      ⊢ (|={Set.univ}=> iprop((bigSep Finset.univ fun t : Fin 32 => atPos ER (rcell c t) 0 ∅ 0)
        ∗ bigSep Finset.univ fun t : Fin 32 => reached ER (rcell c t) 0) : sProp 𝕄) := by
  have h1 : ∀ t : Fin 32, iprop(invs (PA₁ m) (RE₁ m) (GA₁ m) K ∗ (openTok ER (rcell c t) ∗ semVal (rcell c t) 0))
      ⊢ (|={Set.univ}=> iprop(atPos ER (rcell c t) 0 ∅ 0 ∗ reached ER (rcell c t) 0) : sProp 𝕄) := fun t => by
    iintro ⟨#Hinv, Ho, Hv⟩
    ihave Hi := (invs_recv (PA₁ m) (RE₁ m) (GA₁ m) K c t) $$ Hinv
    iapply (Rounds.cell_open ER (sched (F := F) (PA₁ m) (RE₁ m) (GA₁ m)) (g := rcell c t) (Set.mem_univ (K (rcell c t))))
    isplitl [Hi]; · iexact Hi
    isplitl [Ho] <;> iassumption
  iintro ⟨#Hinv, Ho, Hv⟩
  ihave H := (zip (fun t : Fin 32 => openTok ER (rcell c t)) (fun t : Fin 32 => semVal (rcell c t) 0)) $$ [Ho Hv]
  · isplitl [Ho] <;> iassumption
  ihave H2 := (bigSep_with_persistent (S := Finset.univ) (R := invs (PA₁ m) (RE₁ m) (GA₁ m) K)
    (Φ := fun t : Fin 32 => iprop(openTok ER (rcell c t) ∗ semVal (rcell c t) 0)) fun t _ => h1 t) $$ [H]
  · isplitr; · iexact Hinv
    iexact H
  ihave H3 := (bigSep_fupd Finset.univ (fun t : Fin 32 => iprop(atPos ER (rcell c t) 0 ∅ 0 ∗ reached ER (rcell c t) 0))) $$ H2
  imod H3 with H4
  imodintro
  iapply (unzip (fun t : Fin 32 => atPos ER (rcell c t) 0 ∅ 0) (fun t : Fin 32 => reached ER (rcell c t) 0)) $$ H4

theorem arrs_start : iprop((bigSep Finset.univ fun t : Fin 32 => atPos ER (rcell c t) 0 ∅ 0)
      ∗ bigSep Finset.univ fun t : Fin 32 => cred (tallyAt (rcell c t) () N)) ⊢ (arrs c 0 : sProp 𝕄) :=
  (zip _ _).trans (Entails.of_eq (bigSep_congr fun t _ => (if_neg (Nat.not_lt_zero _)).symm))

/-- What enters the region: its cells open, its other counters at zero. -/
def Xe : sProp 𝕄 := iprop(Xk m c ∗ localSems c)

theorem region_open : iprop(Tk m c ∗ Pipeline.ownSems0 osem c ∗ levAts L lv) ⊢ (|={Set.univ}=> Xe m c : sProp 𝕄) := by
  rw [own_sems]
  unfold Tk ghost Xe Xk opened localSems ctx
  iintro ⟨⟨⟨%K, #Hinv, Ho, Ht⟩, HcB, HcR⟩, ⟨Hl, Hst, HsS, HrS⟩, #Hlev⟩
  imod (open_recv m c K) $$ [Ho HrS] with ⟨Hat, #Hre⟩
  · isplitr; · iexact Hinv
    isplitl [Ho] <;> iassumption
  imodintro
  isplitr [Hl Hst HsS]
  · iexists K
    isplitr
    · isplitr; · iexact Hinv
      iexact Hlev
    isplitr; · iexact Hre
    isplitl [Ht]; · iexact Ht
    isplitl [HcB]; · iexact HcB
    iapply (arrs_start c) $$ [Hat HcR]
    isplitl [Hat] <;> iassumption
  isplitl [Hl]; · iexact Hl
  isplitl [Hst] <;> iassumption

theorem region_in : iprop(Pipeline.scopedRest (Pipeline.pin (pcfgs (F := F)) adm 0).spec c ∗ (∃ r, prngReg c r)
      ∗ StableHlo.held (c.tc : Thread nD τ) Hs (V₁ m c) ∗ Xe m c) ⊢ (pdats m 0 c).Φ 0 := by
  show iprop(Pipeline.scopedRest spec0 c ∗ (∃ r, prngReg c r) ∗ StableHlo.held (c.tc : Thread nD τ) Hs (V₁ m c) ∗ Xe m c) ⊢ Φ₀ m c
  rw [rest_scratch, held_own]
  unfold Xe Φ₀
  iintro ⟨Hs, Hp, ⟨HR, HP, Ho⟩, HX, Hl⟩
  isplitl [HX]; · iexact HX
  isplitl [Hs]; · iexact Hs
  isplitl [Hl]; · iexact Hl
  isplitl [HP]; · iexact HP
  isplitl [HR]; · iexact HR
  isplitl [Ho]; · unfold anyC; iexists _; iexact Ho
  iexact Hp

theorem V₂_out : V₂ m c (main_v3 : DevRef τ sig) = out₁ m c := Function.update_self ..
theorem V₂_other (b : DevRef τ sig) (h : b ≠ (main_v3 : DevRef τ sig)) : V₂ m c b = V₁ m c b := Function.update_of_ne h ..

theorem region_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V₂ m c) ∗ Pipeline.ownSems0 osem c ∗ Yk c) := by
  show Φ₁ m c ⊢ iprop(Pipeline.scopedRest spec0 c ∗ (∃ r, prngReg c r)
      ∗ StableHlo.held (c.tc : Thread nD τ) Hs (V₂ m c) ∗ Pipeline.ownSems0 osem c ∗ Yk c)
  rw [rest_scratch, held_own, own_sems, V₂_out, V₂_other m c _ (by decide), V₂_other m c _ (by decide)]
  unfold Φ₁ localSems
  iintro ⟨Hb, HrS, Hs, ⟨Hl, Hst, HsS⟩, HP, HR, Ho, Hp⟩
  isplitl [Hs]; · iexact Hs
  isplitl [Hp]; · iexact Hp
  isplitl [HP HR Ho]
  · isplitl [HR]; · iexact HR
    isplitl [HP] <;> iassumption
  isplitl [Hl Hst HsS HrS]
  · isplitl [Hl]; · iexact Hl
    isplitl [Hst]; · iexact Hst
    isplitl [HsS] <;> iassumption
  iexact Hb

end

/-! ## The region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then bowed c 0 else 0 := rfl
  rw [e] at h
  split at h
  · rcases bowed_pos h with ⟨t, rfl⟩ | ⟨d, rfl⟩
    · exact ⟨by rw [L_tc]; exact Finset.mem_singleton_self _, by rw [lv_recv]; have := lvT_ge t; omega⟩
    · exact ⟨by rw [L_tc]; exact Finset.mem_singleton_self _, by rw [lv_bar]; decide⟩
  · exact absurd h (Nat.lt_irrefl 0)

theorem stage_low : ∀ (w : Fin 1) (s : Fin (spec0 w).nbuf) (t : Fin 32), (spec0 w).sem s ≠ rS t := by decide +kernel

theorem share_full (c : Dev nD) (w : Fin (Pipeline.pin (pcfgs (F := F)) adm 0).W) : (pdats (F := F) m 0 c).share w = fullShare := by
  show (if _ then fullShare else fullShare) = fullShare
  exact ite_self _

/-- The call leaves the gain's array as it found it. -/
theorem array_after (c : Dev nD) (w : Fin (Pipeline.pin (pcfgs (F := F)) adm 0).W) :
    (pdats (F := F) m 0 c).arrAt w (Pipeline.pin (pcfgs (F := F)) adm 0).N
      = V₂ m c (Proc.devRef .tc (Pipeline.arrRef (Pipeline.pin (pcfgs (F := F)) adm 0).spec w)) := by
  match w with
  | ⟨0, _⟩ => exact ((pdats m 0 c).arrAt_in 0 rfl _).trans (V₂_other m c (main_v2 : DevRef τ sig) (by decide)).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr (by decide) kit rfl (fun c => (body_obligation m c).loose)
    (fun _ => 0) (fun c => bowed c 0) (fun c => (owed_zero m c).trans (zero_add _).symm) (owed_last m) (fun _ => rfl) (share_full m)
    (V₁ m) (V₂ m) (fun c b hb => V₂_other m c b fun h => (Finset.mem_sdiff.mp hb).2 (h ▸ by decide))
    (Tk m) Yk (Xe m) Yk (region_open m) (region_in m) (region_out m)
    (fun c => by iintro H; imodintro; iexact H)
    (fun _ => 0)
    ⟨fun c w s => by rw [L_tc]; exact Finset.mem_singleton_self _,
      fun c w s => le_of_eq (lv_low c _ (stage_low w s) ()), fun c t g i h => cut_owed m c t g i h⟩
    (fun _ => iprop(emp))
    (fun c w => rfl) (array_after m)

end Cert.KernelIdeal.RS

end
-- ==== Proof.StartIdeal.lean ====
/- The start of the program: the cells of the exchange and their tokens, dealt to the devices, and the credits that the
   devices have of one another. -/
module

public import proofs.«01_k».proof.Proof.CallIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The cells and the tokens -/

def barE : Dev nD ↪ GSem nD τ sig := ⟨bcell, fun _ _ h => congrArg (fun g : GSem nD τ sig => g.1.1) h⟩
def recvE : Dev nD × Fin 32 ↪ GSem nD τ sig := ⟨fun p => rcell p.1 p.2, fun _ _ h =>
  Prod.ext (congrArg (fun g : GSem nD τ sig => g.1.1) h) (rS_inj _ _ (SemLoc.dma.inj (congrArg Prod.snd h)))⟩
abbrev barCells : Finset (GSem nD τ sig) := Finset.univ.map barE
abbrev recvCells : Finset (GSem nD τ sig) := Finset.univ.map recvE

def barT : Dev nD × Fin 3 ↪ GSem nD τ sig × ℕ × Duty := ⟨fun p => (bcell p.1, 0, p.2), fun _ _ h =>
  Prod.ext (congrArg (fun x : GSem nD τ sig × ℕ × Duty => x.1.1.1) h) (congrArg (fun x : GSem nD τ sig × ℕ × Duty => x.2.2) h)⟩
def recvT : Dev nD × Fin 32 ↪ GSem nD τ sig × ℕ × Duty := ⟨fun p => (rcell p.1 p.2, 0, 0), fun _ _ h =>
  recvE.injective (congrArg (fun x : GSem nD τ sig × ℕ × Duty => x.1) h)⟩
abbrev toks : Finset (GSem nD τ sig × ℕ × Duty) := Finset.univ.map barT ∪ Finset.univ.map recvT

theorem cells_disjoint : Disjoint barCells recvCells := by
  rw [Finset.disjoint_left]
  rintro g h₁ h₂
  obtain ⟨c, -, rfl⟩ := Finset.mem_map.mp h₁
  obtain ⟨p, -, h⟩ := Finset.mem_map.mp h₂
  exact dma_ne_bar _ (congrArg Prod.snd h)
theorem toks_disjoint : Disjoint (Finset.univ.map barT) (Finset.univ.map recvT) := by
  rw [Finset.disjoint_left]
  rintro g h₁ h₂
  obtain ⟨c, -, rfl⟩ := Finset.mem_map.mp h₁
  obtain ⟨p, -, h⟩ := Finset.mem_map.mp h₂
  exact dma_ne_bar _ (congrArg (fun x : GSem nD τ sig × ℕ × Duty => x.1.2) h)

/-- The exchange's part of the element of the start. -/
abbrev start₀ : UB := launchOf barCells recvCells toks

theorem invs_all (κ : GSem nD τ sig → ℕ) :
    (bigSep (barCells ∪ recvCells) fun g => (cellInv ER (sched (F := F) (PA₁ m) (RE₁ m) (GA₁ m)) (κ g) g : sProp 𝕄))
      = invs (PA₁ m) (RE₁ m) (GA₁ m) κ := by
  rw [bigSep_union cells_disjoint, bigSep_map, bigSep_map]; rfl

/-- A family over the devices, moved along a pairing of them. -/
def flip (f : Dev nD → Dev nD) (h : ∀ c, f (f c) = c) : Dev nD ≃ Dev nD := ⟨f, f, h, h⟩

omit [FloatOps F] in
theorem around {ι : Type} [Fintype ι] [DecidableEq ι] (f : ι → Dev nD → Dev nD) (h : ∀ i c, f i (f i c) = c) (Φ : Dev nD → ι → sProp 𝕄) :
    (bigSep Finset.univ fun c : Dev nD => bigSep Finset.univ fun i : ι => Φ c i)
      = bigSep Finset.univ fun c : Dev nD => bigSep Finset.univ fun i : ι => Φ (f i c) i := by
  rw [bigSep_univ_comm, bigSep_univ_comm (fun c : Dev nD => fun i : ι => Φ (f i c) i)]
  exact bigSep_congr fun i _ => bigSep_univ_equiv (flip (f i) (h i)) (fun c => Φ c i)

/-- The tokens, each with the device that will pay for it. -/
theorem toks_around : (bigSep toks fun x => (dutyTok ER x.1 x.2.1 x.2.2 : sProp 𝕄))
    = iprop((bigSep Finset.univ fun c : Dev nD => bigSep Finset.univ fun d : Fin 3 => dutyTok ER (bcell (nb d c)) 0 d)
      ∗ bigSep Finset.univ fun c : Dev nD => bigSep Finset.univ fun t : Fin 32 => dutyTok ER (rcell (tgt c t) t) 0 0) := by
  rw [bigSep_union toks_disjoint, bigSep_map, bigSep_map, bigSep_univ_prod, bigSep_univ_prod,
    ← around (fun d c => nb d c) nb_nb (fun c d => (dutyTok ER (bcell c) 0 d : sProp 𝕄)),
    ← around (fun t c => tgt c t) (fun t c => tgt_tgt c t) (fun c t => (dutyTok ER (rcell c t) 0 0 : sProp 𝕄))]
  rfl

/-! ## The credits -/

theorem sum_at {ι : Type} (s : Finset ι) (f : ι → CellTallies nD τ sig Unit) (g : GSem nD τ sig) (u : Unit) :
    (∑ i ∈ s, f i) g u = ∑ i ∈ s, f i g u := by
  classical
  induction s using Finset.induction_on with
  | empty => rfl
  | insert i s hi ih => rw [Finset.sum_insert hi, Finset.sum_insert hi, Pi.add_apply, Finsupp.add_apply, ih]

theorem bcell_inj {c c' : Dev nD} (h : bcell c = bcell c') : c = c' := barE.injective h
theorem rcell_inj {c c' : Dev nD} {t t' : Fin 32} (h : rcell c t = rcell c' t') : c = c' ∧ t = t' :=
  Prod.ext_iff.mp (recvE.injective (a₁ := (c, t)) (a₂ := (c', t')) h)
theorem bcell_ne (c c' : Dev nD) (t : Fin 32) : bcell c ≠ rcell c' t := fun h => dma_ne_bar _ (congrArg Prod.snd h).symm

theorem owes_bar (d c : Dev nD) : bowed d 0 (bcell c) () = ∑ e : Fin 3, if d = nb e c then 1 else 0 := by
  unfold bowed owed
  rw [Pi.add_apply, Finsupp.add_apply, sum_at, sum_at, Finset.sum_eq_zero fun t _ => by
    rw [tallyAt_apply, if_neg fun h => bcell_ne _ _ _ h.1], Nat.zero_add, Finset.filter_true_of_mem fun _ _ => Nat.zero_le _]
  refine Finset.sum_congr rfl fun e _ => ?_
  rw [tallyAt_apply]
  exact if_congr ⟨fun h => by rw [bcell_inj h.1, nb_nb], fun h => ⟨by rw [h, nb_nb], rfl⟩⟩ rfl rfl

theorem owes_recv (d c : Dev nD) (t : Fin 32) : bowed d 0 (rcell c t) () = if d = tgt c t then N else 0 := by
  unfold bowed owed
  rw [Pi.add_apply, Finsupp.add_apply, sum_at, sum_at, Finset.sum_eq_zero (s := Finset.univ.filter _) (f := fun e : Fin 3 => _) fun e _ => by
    rw [tallyAt_apply, if_neg fun h => bcell_ne _ _ _ h.1.symm], Nat.add_zero, Finset.filter_true_of_mem fun _ _ => Nat.zero_le _,
    Finset.sum_eq_single t (fun t' _ h => by rw [tallyAt_apply, if_neg fun h' => h (rcell_inj h'.1).2.symm]) (fun h => absurd (Finset.mem_univ t) h),
    tallyAt_apply]
  exact if_congr ⟨fun h => by rw [(rcell_inj h.1).1, tgt_tgt], fun h => ⟨by rw [h, tgt_tgt], rfl⟩⟩ rfl rfl

abbrev O₀ (c : Dev nD) : CellTallies nD τ sig Unit := bowed c 0

theorem credit_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owes_bar d c, Finset.sum_comm,
    Finset.sum_congr rfl fun e _ => (Finset.sum_ite_eq' Finset.univ (nb e c) fun _ => 1).trans (if_pos (Finset.mem_univ _))]
  rfl

theorem credit_recv (c : Dev nD) (t : Fin 32) :
    tallyOn (rcell c t) (launchCredit (Pipeline.owing O₀) 0 (rcell c t)) = (tallyAt (rcell c t) () N : CellTallies nD τ sig Unit) := by
  unfold tallyAt; refine congrArg _ (Finsupp.ext fun u => ?_); cases u
  rw [Pipeline.launchCredit_owing, Finsupp.single_eq_same, Finset.sum_congr rfl fun d _ => owes_recv d c t,
    Finset.sum_ite_eq' Finset.univ (tgt c t) fun _ => N, if_pos (Finset.mem_univ _)]

def recvS : Fin 32 ↪ SemLoc sig := ⟨fun t => .dma (rS t), fun _ _ h => rS_inj _ _ (SemLoc.dma.inj h)⟩

omit [FloatOps F] in
theorem creds (c : Dev nD) : (Pipeline.launchCred O₀ c : sProp 𝕄)
    ⊢ iprop(cred (tallyAt (bcell c) () 3) ∗ bigSep Finset.univ fun t : Fin 32 => cred (tallyAt (rcell c t) () N)) := by
  unfold Pipeline.launchCred
  rw [bigSep_univ_at _ (SemLoc.reg barrier0), credit_bar]
  have h1 : (bigSep (Finset.univ.erase (SemLoc.reg barrier0)) fun sm : SemLoc sig =>
        (cred (tallyOn ((c : Thread nD τ), sm) (launchCredit (Pipeline.owing O₀) 0 ((c : Thread nD τ), sm))) : sProp 𝕄))
      ⊢ bigSep (Finset.univ.map recvS) fun sm : SemLoc sig =>
        cred (tallyOn ((c : Thread nD τ), sm) (launchCredit (Pipeline.owing O₀) 0 ((c : Thread nD τ), sm))) :=
    bigSep_subset fun s hs => ?_
  refine sep_mono_right (h1.trans (Entails.of_eq ?_))
  rotate_left
  · obtain ⟨t, -, rfl⟩ := Finset.mem_map.mp hs
    exact Finset.mem_erase.mpr ⟨dma_ne_bar _, Finset.mem_univ _⟩
  · rw [bigSep_map]; exact bigSep_congr fun t _ => congrArg _ (credit_recv c t)

/-! ## Each device's share -/

/-- What every device may consult. -/
def records (κ : GSem nD τ sig → ℕ) : sProp 𝕄 :=
  iprop(invs (PA₁ m) (RE₁ m) (GA₁ m) κ ∗ bigSep barCells fun g => reached ER g 0)
instance records_persistent (κ : GSem nD τ sig → ℕ) : BI.Persistent (records m κ) := by unfold records; infer_instance

omit [FloatOps F] in
theorem reached_bar (c : Dev nD) : (bigSep barCells fun g => (reached ER g 0 : sProp 𝕄)) ⊢ reached ER (bcell c) 0 :=
  bigSep_elim (Finset.mem_map_of_mem barE (Finset.mem_univ c))

/-- What stays with device `c`. -/
def linear (c : Dev nD) : sProp 𝕄 :=
  iprop(atPos ER (bcell c) 0 ∅ 0 ∗ (bigSep Finset.univ fun t : Fin 32 => openTok ER (rcell c t))
    ∗ (bigSep Finset.univ fun d : Fin 3 => dutyTok ER (bcell (nb d c)) 0 d)
    ∗ bigSep Finset.univ fun t : Fin 32 => dutyTok ER (rcell (tgt c t) t) 0 0)

theorem ghost_intro (κ : GSem nD τ sig → ℕ) (c : Dev nD) : iprop(records m κ ∗ linear c) ⊢ iprop(∃ K, ghost m K c) := by
  unfold records linear ghost tokens
  iintro ⟨⟨#HI, #HR⟩, Hat, Ho, HtB, HtR⟩
  iexists κ
  isplitr; · iexact HI
  isplitl [Ho]; · iexact Ho
  isplitl [HtB]
  · iapply (bigSep_with_persistent (S := Finset.univ) (R := bigSep barCells fun g => (reached ER g 0 : sProp 𝕄))
      (Φ := fun d : Fin 3 => dutyTok ER (bcell (nb d c)) 0 d)
      (Ψ := fun d : Fin 3 => iprop(dutyTok ER (bcell (nb d c)) 0 d ∗ reached ER (bcell (nb d c)) 0)) fun d _ => by
        iintro ⟨#H, Ht⟩
        isplitl [Ht]; · iexact Ht
        iapply (reached_bar (F := F) (nb d c)) $$ H)
    isplitr; · iexact HR
    iexact HtB
  isplitl [HtR] <;> iassumption

/-- The cells of the exchange allocated, and everything dealt. -/
theorem deal : iprop((bigSep Finset.univ fun c : Dev nD => semVal (bcell c) 0) ∗ BI.own (ER start₀))
    ⊢ (|={Set.univ}=> iprop(∃ κ, records m κ ∗ bigSep Finset.univ fun c : Dev nD => linear c) : sProp 𝕄) := by
  have hv : bigSep Finset.univ (fun c : Dev nD => (semVal (bcell c) 0 : sProp 𝕄)) ⊢ bigSep barCells (fun g => (semVal g 0 : sProp 𝕄)) :=
    Entails.of_eq (bigSep_map (s := Finset.univ) barE (Φ := fun g : GSem nD τ sig => (semVal g 0 : sProp 𝕄))).symm
  have hat : bigSep barCells (fun g => (atPos ER g 0 ∅ 0 : sProp 𝕄)) ⊢ bigSep Finset.univ (fun c : Dev nD => (atPos ER (bcell c) 0 ∅ 0 : sProp 𝕄)) :=
    Entails.of_eq (bigSep_map (s := Finset.univ) barE (Φ := fun g : GSem nD τ sig => (atPos ER g 0 ∅ 0 : sProp 𝕄)))
  have ho : bigSep recvCells (fun g => (openTok ER g : sProp 𝕄))
      ⊢ bigSep Finset.univ (fun c : Dev nD => bigSep Finset.univ fun t : Fin 32 => (openTok ER (rcell c t) : sProp 𝕄)) :=
    Entails.of_eq (by rw [bigSep_map, bigSep_univ_prod]; rfl)
  iintro ⟨Hv, Hu⟩
  imod (Rounds.fund_launch ER (sched (F := F) (PA₁ m) (RE₁ m) (GA₁ m)) cells_disjoint (fun g _ h => h) toks) $$ [Hv Hu] with ⟨%κ, -, #Hinv, #Hr, Hat, Hopen, Htok⟩
  · isplitl [Hv]
    · iapply hv $$ Hv
    · iexact Hu
  imodintro
  iexists κ
  isplitr
  · unfold records
    isplitr; · iapply (Entails.of_eq (invs_all m κ)) $$ Hinv
    iexact Hr
  unfold linear
  ihave Ht := (Entails.of_eq (toks_around (F := F))) $$ Htok
  icases Ht with ⟨HtB, HtR⟩
  iapply zip; isplitl [Hat]; · iapply hat $$ Hat
  iapply zip; isplitl [Hopen]; · iapply ho $$ Hopen
  iapply zip; isplitl [HtB] <;> iassumption

end Cert.KernelIdeal.RS

end
-- ==== Proof.RunIdeal.lean ====
/- The run of the whole program: the reshapes, the call, and what every final state holds. -/
module

public import proofs.«01_k».proof.Proof.StartIdeal

@[expose] public section

noncomputable section

namespace Cert.KernelIdeal.RS

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The arrays of the program -/

def bufs : Finset (DevRef τ sig) := (StableHlo.tcRefs τ sig).filter fun b => ¬ b.isScoped
abbrev arr : Finset (DevRef τ sig) := {Proc.devRef .tc main_v2}

section
variable (c : Dev nD)

omit [FloatOps F] in
theorem bufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem arr_sub : arr ⊆ bufs := by decide
theorem rest_eq : bufs \ arr = Sr := by decide
theorem arr_eq : Pipeline.arrRefs (τ := τ) spec0 = arr := by decide

omit [FloatOps F] in
theorem bufs_split (W : Valuation τ sig (Elt F)) : (StableHlo.held (c : Thread nD τ) bufs W : sProp 𝕄)
    = iprop(StableHlo.held (c : Thread nD τ) (Pipeline.arrRefs (τ := τ) spec0) W ∗ StableHlo.held (c : Thread nD τ) Sr W) := by
  rw [StableHlo.held_sub_split (c : Thread nD τ) arr_sub W, rest_eq, arr_eq]

omit [FloatOps F] in
theorem bufs_each (W : Valuation τ sig (Elt F)) : (StableHlo.held (c : Thread nD τ) Sr W : sProp 𝕄)
    = iprop((((c : Thread nD τ).loc main_arg0) ↦{fullShare} W (main_arg0 : DevRef τ sig))
      ∗ (((c : Thread nD τ).loc main_arg1) ↦{fullShare} W (main_arg1 : DevRef τ sig))
      ∗ (((c : Thread nD τ).loc main_arg2) ↦{fullShare} W (main_arg2 : DevRef τ sig))
      ∗ (((c : Thread nD τ).loc main_v1) ↦{fullShare} W (main_v1 : DevRef τ sig))
      ∗ (((c : Thread nD τ).loc main_v3) ↦{fullShare} W (main_v3 : DevRef τ sig))) := by
  unfold StableHlo.held
  rw [bigSep_eq_bigSepL_of_eq [Proc.devRef .tc main_arg0, Proc.devRef .tc main_arg1, Proc.devRef .tc main_arg2, Proc.devRef .tc main_v1,
    Proc.devRef .tc main_v3] (by decide) (by decide)]
  rfl

theorem unscoped_sems : (unscopedSems0 c : sProp 𝕄) = semVal (bcell c) 0 := by
  unfold unscopedSems0
  rw [show (Finset.univ.filter fun sm : SemLoc sig => ¬ sm.isScoped .tc) = {SemLoc.reg barrier0} from by decide, BI.bigSep_singleton]

/-! ## The two segments -/

/-- What rides beside the arrays up to the call. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := by
  intro op h
  rcases List.mem_cons.mp h with rfl | h
  · rw [StableHlo.reshape_bufs]; decide
  rcases List.mem_cons.mp h with rfl | h
  · rw [StableHlo.reshape_bufs]; decide
  · exact absurd h (List.not_mem_nil)
theorem ops_fresh : ∀ op ∈ (hostOps0 : List (HloOp τ sig (Elt F))), op.fresh = ∅ := List.forall_iff_forall_mem.mp hostOps0_fresh

def host : Pipeline.HostSeg (Name := ℕ) (U := UU) (pcfgs (F := F)) defs₀ 𝒱₀ L lv :=
  Pipeline.HostSeg.ofOps _ _ _ _ _ bufs hostOps0 ops_sub ops_fresh (fun c b => m (c, b)) (R m)

def segs : List (Pipeline.Seg (pcfgs (F := F)) adm (pdats m) () defs₀ 𝒱₀ L lv) := [.host (host m), .region (reg m)]
theorem main_eq : main (F := F) c = Pipeline.Seg.run (segs m) := main_segs adm (pdats m) () 𝒱₀ L lv (host m) (reg m) rfl c

theorem reg_pre : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [bufs_split, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post : (reg m).post c
    ⊢ iprop((StableHlo.held (c : Thread nD τ) bufs (V₂ m c) ∗ semVal (bcell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) Sr (V₂ m c) ∗ emp) ∗ Yk c ∗ ∃ Wd, owes (c : Thread nD τ) (0 : CellTallies nD τ sig Unit) Wd) ⊢ _
  rw [bufs_split]
  unfold Yk
  iintro ⟨Ha, -, ⟨Hr, -⟩, Hb, HO⟩
  isplitr [HO]
  · isplitl [Ha Hr]; · isplitl [Ha] <;> iassumption
    iexact Hb
  iexact HO

/-! ## The start and the end of the run -/

abbrev T₀ : sProp 𝕄 := iprop(StableHlo.held (c : Thread nD τ) bufs (fun b => m (c, b)) ∗ R m c)
abbrev Tₙ : sProp 𝕄 := iprop(StableHlo.held (c : Thread nD τ) bufs (V₂ m c) ∗ semVal (bcell c) 0)

/-- The element of the start: the pipeline's part, the exchange's. -/
def u₀ : UU :=
  (initOf (Pipeline.cells (Pipeline.pin (pcfgs (F := F)) adm) cellOf_inj) (Pipeline.launchToks (Pipeline.pin (pcfgs (F := F)) adm) cellOf_inj),
    ((Emb.inl : Emb UB (UB × Counters)) start₀))

/-- The exchange's part of it, kept whole on the first device. -/
def G : sProp 𝕄 := if c = 0 then BI.own (ER start₀) else iprop(emp)
omit [FloatOps F] in
theorem G_all : bigSep Finset.univ (fun c : Dev nD => (G c : sProp 𝕄)) = BI.own (ER start₀) :=
  (bigSep_one 0 fun c h => if_neg h).trans (if_pos rfl)

/-- What of a device's holdings at the start is not the exchange's. -/
def bundle : sProp 𝕄 :=
  iprop(StableHlo.held (c : Thread nD τ) bufs (fun b => m (c, b)) ∗ (cred (tallyAt (bcell c) () 3) ∗ bigSep Finset.univ fun t : Fin 32 => cred (tallyAt (rcell c t) () N))
    ∗ owes (c : Thread nD τ) (O₀ c) ∅ ∗ ∃ r, prngReg c r)

theorem T₀_intro (κ : GSem nD τ sig → ℕ) : iprop(records m κ ∗ (linear c ∗ bundle m c)) ⊢ T₀ m c := by
  unfold bundle T₀ R Tk
  iintro ⟨#HR, Hl, Hh, ⟨H1, HN⟩, HO, Hp⟩
  isplitl [Hh]; · iexact Hh
  isplitl [Hl H1 HN]
  · isplitl [Hl]
    · iapply (ghost_intro m κ c)
      isplitr; · iexact HR
      iexact Hl
    isplitl [H1] <;> iassumption
  isplitl [Hp]; · iexact Hp
  iexists ∅; iexact HO

theorem init_one : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (bcell c) 0 ∗ G c)) : sProp 𝕄) := by
  rw [show unscopedBufs c (fun b => m ((c : Thread nD τ).loc b)) = StableHlo.held (c : Thread nD τ) bufs (fun b => m (c, b)) from
    bufs_held c (fun b => m (c, b)), unscoped_sems]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption
end

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (bcell c) 0 ∗ G c)) : sProp 𝕄) from bigSep_mono fun c _ => init_one m ρ c) $$ H
  ihave H2 := (unzip (fun c : Dev nD => bundle m c) (fun c : Dev nD => iprop(semVal (bcell c) 0 ∗ G c))) $$ H'; icases H2 with ⟨HB, H3⟩
  ihave H4 := (unzip (fun c : Dev nD => (semVal (bcell c) 0 : sProp 𝕄)) (fun c : Dev nD => G c)) $$ H3; icases H4 with ⟨Hv, HG⟩
  ihave Hu := (Entails.of_eq (G_all (F := F))) $$ HG
  imod (deal m) $$ [Hv Hu] with ⟨%κ, #Hrec, Hlin⟩
  · isplitl [Hv] <;> iassumption
  imodintro
  iapply (bigSep_with_persistent (R := records m κ) (Φ := fun c => iprop(linear c ∗ bundle m c)) fun c _ => T₀_intro m c κ)
  isplitr; · iexact Hrec
  iapply zip
  isplitl [Hlin] <;> iassumption

theorem bar_only : ∀ sm : SemLoc sig, sm.isScoped .tc = false → sm = .reg barrier0 := by decide +kernel

set_option backward.isDefEq.respectTransparency.types false in
/-- THE RUN: from any contents with every counter at zero, every execution of the program on the eight devices ends, and every
    final state has the arguments unchanged, the result `out₁`, and every counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v3) = out₁ m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (main_arg0 : DevRef τ sig)
      ∧ s.mem ((c : Thread nD τ).loc main_arg1) = V₂ m c (main_arg1 : DevRef τ sig)
      ∧ s.mem ((c : Thread nD τ).loc main_arg2) = V₂ m c (main_arg2 : DevRef τ sig)
      ∧ s.mem ((c : Thread nD τ).loc main_v3) = V₂ m c (main_v3 : DevRef τ sig))
      ∧ s.sem (bcell c) = 0)
    (hfin := fun c s' => by
      dsimp only [Tₙ]; rw [bufs_split, bufs_each]
      iintro ⟨⟨⟨-, H0, H1, H2, -, H3⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V₂_other m c _ (by decide)] at h0 h1 h2
        rw [V₂_out] at h3
        exact ⟨h0.trans (V_main_arg0 m c), h1.trans (V_main_arg1 m c), h2.trans (V_main_arg2 m c), h3⟩,
      sem_eq_zero hs fun c sm hsm => by
        obtain rfl := bar_only sm hsm
        exact (h c).2⟩)

end Cert.KernelIdeal.RS

end
-- ==== Proof.Ref.lean ====
/- The reference over the extended reals, read at one element of its result. -/
module

public import proofs.«01_k».proof.Proof.Gen.ReferenceIdeal.Run
public import Idealize.ShloMosaic.Lib.Pointwise

@[expose] public section

noncomputable section

namespace Cert.ReferenceIdeal.RS

open Cert.ReferenceIdeal.Gen
open Idealize.ShloMosaic
open Idealize.ShloMosaic.TcCoe

/-! ## One row -/

/-- The mean of the squares of a row of 4096 elements, plus a millionth. -/
def meanSq (y : Fin 4096 → EReal) : EReal :=
  Ideal.div (∑ k, y k * y k) (Ideal.ofBits .f32 0x45800000#32) + Ideal.ofBits .f32 0x358637BD#32

theorem word_4096 : Ideal.ofBits .f32 0x45800000#32 = ((4096 : ℝ) : EReal) := by
  simp [Ideal.ofBits, Ideal.ieee, -EReal.coe_mul]; norm_num
theorem word_pos : (0 : EReal) < Ideal.ofBits .f32 0x358637BD#32 := by
  simp [Ideal.ofBits, Ideal.ieee, -EReal.coe_mul]

/-- A square is not negative, on all extended reals. -/
theorem sq_nonneg' (x : EReal) : 0 ≤ x * x := by
  rw [EReal.mul_nonneg_iff]
  exact (le_total 0 x).imp (fun h => ⟨h, h⟩) fun h => ⟨h, h⟩

theorem meanSq_pos (y : Fin 4096 → EReal) : 0 < meanSq y := by
  unfold meanSq
  rw [word_4096, Ideal.div_coe (by norm_num : (4096 : ℝ) ≠ 0)]
  refine lt_of_lt_of_le word_pos ?_
  have h : (0 : EReal) ≤ (∑ k, y k * y k) * (((1 / 4096 : ℝ)) : EReal) :=
    EReal.mul_nonneg (Finset.sum_nonneg fun k _ => sq_nonneg' _) (by norm_num)
  exact le_add_of_nonneg_left h

/-- Division by the root is multiplication by the inverse root, above zero. -/
theorem div_sqrt (x v : EReal) (h : 0 < v) : Ideal.div x (Ideal.sqrt v) = x * Ideal.rsqrt v := by
  induction v with
  | bot => exact absurd h (by simp)
  | top =>
    rw [show Ideal.sqrt ⊤ = ⊤ from rfl, Ideal.rsqrt_top, Ideal.div, if_neg (by simp), EReal.inv_top]
  | coe r =>
    have hr : 0 < r := by exact_mod_cast h
    have hs : Real.sqrt r ≠ 0 := (Real.sqrt_pos.mpr hr).ne'
    rw [show Ideal.sqrt (r : EReal) = if r < 0 then ⊥ else ((Real.sqrt r : ℝ) : EReal) from rfl, Ideal.rsqrt_coe,
      if_neg hr.not_gt, if_neg hr.not_gt, if_neg hr.ne', Ideal.div, if_neg (by exact_mod_cast hs), EReal.coe_inv]

/-! ## The whole array -/

/-- The sum of the two partial products and of the residual at row `r`, column `l`. -/
def sumAt (X : FVec Ideal S2x4096x4096 .f32) (R : FVec Ideal S4096x4096 .f32) (r l : Fin 4096) : EReal :=
  X (ix3 0 r l) + X (ix3 1 r l) + R (ix2 r l)

/-- What the reference computes of the whole arrays. -/
def whole (X : FVec Ideal S2x4096x4096 .f32) (R : FVec Ideal S4096x4096 .f32) (G : FVec Ideal S4096 .f32) : FVec Ideal S4096x4096 .bf16 :=
  truncf .bf16 (mulf (Host.divf (addf (Host.reduceAdd X (constant S_ .f32 0x00000000#32) reducesTo_S2x4096x4096_S4096x4096_d0 h_S_) R)
    (broadcastInDim S4096x4096 ![0, 1] bcast_S4096x1_S4096x4096_0_1 (Host.sqrt (addf (Host.divf
      (broadcastInDim S4096x1 ![0] bcast_S4096_S4096x1_0 (Host.reduceAdd (mulf
        (addf (Host.reduceAdd X (constant S_ .f32 0x00000000#32) reducesTo_S2x4096x4096_S4096x4096_d0 h_S_) R)
        (addf (Host.reduceAdd X (constant S_ .f32 0x00000000#32) reducesTo_S2x4096x4096_S4096x4096_d0 h_S_) R))
        (constant S_ .f32 0x00000000#32) reducesTo_S4096x4096_S4096_d1 h_S_))
      (broadcastInDim S4096x1 ![] bcast_S_S4096x1 (constant S_ .f32 0x45800000#32)))
      (broadcastInDim S4096x1 ![] bcast_S_S4096x1 (constant S_ .f32 0x358637BD#32))))))
    (broadcastInDim S4096x4096 ![0, 1] bcast_S1x4096_S4096x4096_0_1 (broadcastInDim S1x4096 ![1] bcast_S4096_S1x4096_1 G))) bitsLt_bf16_f32

/-- An element of it: the sum times the inverse root mean square of its row, times the gain. -/
theorem whole_apply (X : FVec Ideal S2x4096x4096 .f32) (R : FVec Ideal S4096x4096 .f32) (G : FVec Ideal S4096 .f32) (r l : Fin 4096) :
    whole X R G (ix2 r l) = sumAt X R r l * Ideal.rsqrt (meanSq (sumAt X R r)) * G (ix1 l) := by
  rw [← div_sqrt _ _ (meanSq_pos _)]
  pointwise [whole, sumAt, meanSq]
  simp only [Fin.sum_univ_two]

end Cert.ReferenceIdeal.RS

end
-- ==== Proof.Value.lean ====
/- The kernel's result over the extended reals is the reference's, element by element. -/
module

public import proofs.«01_k».proof.Proof.RunIdeal
public import proofs.«01_k».proof.Proof.Ref

@[expose] public section

noncomputable section

namespace Cert.KernelIdeal.RS

open Cert.KernelIdeal.Gen
open Idealize.ShloMosaic
open Idealize.ShloMosaic.TcCoe
open Cert.ReferenceIdeal.RS (meanSq sumAt whole whole_apply)

/-! ## One chunk -/

/-- A row of a chunk: the sum of what is held, what came and the residual, times its inverse root mean square and the
    gain. -/
theorem nrm_apply (a b : Vec Ideal S128x4096 .f32) (r : Vec Ideal S128x4096 .f32) (g : Vec Ideal S1x4096 .f32) (i : Fin 128) (l : Fin 4096) :
    nrm (cnv (unsq a)) (cnv (unsq b)) (unsq r) g (ix2 i l)
      = (a (ix2 i l) + b (ix2 i l) + r (ix2 i l)) * Ideal.rsqrt (meanSq fun k => a (ix2 i k) + b (ix2 i k) + r (ix2 i k))
          * g (ix2 0 l) := by
  pointwise [nrm, invRms, sum3, cnv, unsq, meanSq]

/-! ## Where a chunk lies -/

/-- The row of the whole array that row `i` of band `n` is. -/
def rowOf (n : ℕ) (hn : n < 32) (i : Fin 128) : Fin 4096 := ⟨128 * n + i.val, by omega⟩

theorem bandN_lt (c : Dev nD) (j : Fin 32) : bandN c j < 32 := by
  unfold bandN; have := (stC j).isLt; omega

theorem stR_emb (c : Dev nD) (j : Fin 32) (i : Fin 128) (l : Fin 4096) :
    (stR c j).emb (ix2 i l) = ix2 (rowOf (bandN c j) (bandN_lt c j) i) l := by
  funext a
  apply Fin.ext
  show stOff c j a + 1 * (ix2 i l a).val = _
  rw [stOff_eq]
  fin_cases a
  · show 128 * _ + 1 * i.val = 128 * _ + i.val; rw [one_mul]
  · show 0 + 1 * l.val = l.val; omega

/-- Chunk `k` of device `c`'s own quarter. -/
theorem own_lt (c : Dev nD) (k : Fin 8) : 8 * (c.val % 4) + k.val < 32 := by omega
theorem bandN_own : ∀ (c : Dev nD) (k : Fin 8), bandN c ⟨k.val, by omega⟩ = 8 * (c.val % 4) + k.val := by decide +kernel

theorem part_apply (X : S4096x4096.Idx → EReal) (c : Dev nD) (k : Fin 8) (i : Fin 128) (l : Fin 4096) :
    part (F := Ideal) (e := .f32) X c k (ix2 i l) = X (ix2 (rowOf (8 * (c.val % 4) + k.val) (own_lt c k) i) l) := by
  refine congrArg X ?_
  funext a
  apply Fin.ext
  show ldOff c k a + 1 * (ix2 i l a).val = _
  rw [ldOff_eq, stOff_eq, bandN_own]
  fin_cases a
  · show 128 * _ + 1 * i.val = 128 * _ + i.val; rw [one_mul]
  · show 0 + 1 * l.val = l.val; omega

/-! ## The arrays of a device -/

theorem flat_apply (v : FVec Ideal S1x4096x4096 .f32) (r l : Fin 4096) :
    shapeCast S4096x4096 v shapeCasts_S1x4096x4096_S4096x4096 (ix2 r l) = v (ix3 0 r l) := by
  pointwise
theorem row_apply (v : FVec Ideal S4096 .f32) (l : Fin 4096) :
    shapeCast S1x4096 v shapeCasts_S4096_S1x4096 (ix2 0 l) = v (ix1 l) := by
  pointwise

variable (m : (ℓ : Loc nD τ sig) → Buf (Elt Ideal) ℓ)

theorem P₁_apply (c : Dev nD) (r l : Fin 4096) :
    P₁ m c (ix2 r l) = (m ((c : Thread nD τ).loc main_arg0) : S1x4096x4096.Idx → EReal) (ix3 0 r l) := by
  have h : P₁ m c = shapeCast S4096x4096 (m ((c : Thread nD τ).loc main_arg0) : S1x4096x4096.Idx → EReal) shapeCasts_S1x4096x4096_S4096x4096 := by
    unfold P₁ V₁; after_results; rfl
  rw [h]
  exact flat_apply _ r l
theorem GA₁_apply (c : Dev nD) (l : Fin 4096) :
    GA₁ m c (ix2 0 l) = (m ((c : Thread nD τ).loc main_arg2) : S4096.Idx → EReal) (ix1 l) := by
  have h : GA₁ m c = shapeCast S1x4096 (m ((c : Thread nD τ).loc main_arg2) : S4096.Idx → EReal) shapeCasts_S4096_S1x4096 := by
    unfold GA₁ V₁; after_results; rfl
  rw [h]
  exact row_apply _ l
theorem R₁_eq (c : Dev nD) : R₁ m c = m ((c : Thread nD τ).loc main_arg1) := by
  unfold R₁ V₁; after_results

/-! ## The result -/

variable (X : FVec Ideal Cert.ReferenceIdeal.S2x4096x4096 .f32) (R : FVec Ideal Cert.ReferenceIdeal.S4096x4096 .f32)
  (G : FVec Ideal Cert.ReferenceIdeal.S4096 .f32)

/-- The half of the mesh that device `c` is in: the number of its partial product. -/
def half (c : Dev nD) : Fin 2 := ⟨c.val / 4, by have := c.isLt; have : nD = 8 := rfl; omega⟩

/-- Each device holds its half's partial product, and all of the residual and of the gain. -/
def Holds : Prop := ∀ c : Dev nD,
  (∀ r l, (m ((c : Thread nD τ).loc main_arg0) : S1x4096x4096.Idx → EReal) (ix3 0 r l) = X (ix3 (half c) r l))
  ∧ m ((c : Thread nD τ).loc main_arg1) = R ∧ m ((c : Thread nD τ).loc main_arg2) = G

theorem nb0_row : ∀ d : Dev nD, (nb 0 d).val % 4 = d.val % 4 := by decide +kernel
theorem nb0_half : ∀ d : Dev nD, half d = 0 ∧ half (nb 0 d) = 1 ∨ half d = 1 ∧ half (nb 0 d) = 0 := by decide +kernel

variable {m X R G} (hm : Holds m X R G)
include hm

/-- The two halves' partial products and the residual, at a row of device `d`'s quarter. -/
theorem sum_apply (d : Dev nD) (k : Fin 8) (i : Fin 128) (l : Fin 4096) :
    PA₁ m d k (ix2 i l) + PA₁ m (nb 0 d) k (ix2 i l) + RE₁ m d k (ix2 i l)
      = sumAt X R (rowOf (8 * (d.val % 4) + k.val) (own_lt d k) i) l := by
  have e : rowOf (8 * ((nb 0 d).val % 4) + k.val) (own_lt (nb 0 d) k) i = rowOf (8 * (d.val % 4) + k.val) (own_lt d k) i :=
    Fin.ext (by simp only [rowOf, nb0_row])
  unfold PA₁ RE₁
  rw [part_apply, part_apply, part_apply, e, P₁_apply, P₁_apply, R₁_eq, (hm d).1, (hm (nb 0 d)).1, (hm d).2.1]
  unfold sumAt
  rcases nb0_half d with ⟨h, h'⟩ | ⟨h, h'⟩ <;> rw [h, h']
  rw [add_comm (X (ix3 1 _ _))]

/-- A row of a chunk of the result is the reference's row. -/
theorem res_apply (d : Dev nD) (k : Fin 8) (i : Fin 128) (l : Fin 4096) :
    res (PA₁ m) (RE₁ m) (GA₁ m) d k (ix2 i l)
      = whole X R G (ix2 (rowOf (8 * (d.val % 4) + k.val) (own_lt d k) i) l) := by
  unfold res raw
  rw [nrm_apply, whole_apply, GA₁_apply, (hm d).2.2]
  simp only [sum_apply hm]

/-- The result of every device is the reference's. -/
theorem out₁_eq (c : Dev nD) : out₁ m c = whole X R G := by
  funext x
  obtain ⟨j, -, hj⟩ := Finset.mem_biUnion.mp ((stR_cover c).symm ▸ Finset.mem_univ x)
  rw [← Rect.map_emb_univ] at hj
  obtain ⟨i, -, rfl⟩ := Finset.mem_map.mp hj
  unfold out₁
  rw [outV_at]
  obtain ⟨i0, l, rfl⟩ : ∃ (i0 : Fin 128) (l : Fin 4096), i = ix2 i0 l := ⟨i 0, i 1, (ix2_eta i).symm⟩
  rw [stR_emb]
  exact res_apply hm (stDev c j) (stC j) i0 l

end Cert.KernelIdeal.RS

end
-- ==== Proof.lean ====
/- The kernel's claims: each program terminates with its arguments unchanged and every counter at zero, the ideal
   program is the kernel's own text, and over the extended reals every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.RunIdeal
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel terminates on all devices, its arguments unchanged and every counter at zero. -/
theorem frame_kernel : Cert.quiescent_Kernel := fun m ρ _ =>
  (θ_run Cert.Kernel.defs _ _).mono (fun _ h => ⟨fun c => ⟨(h.1 c).1, (h.1 c).2.1, (h.1 c).2.2.1⟩, h.2⟩)
    (Cert.Kernel.RS.run_main (F := Bits) m ρ)

/-- So does its text over the extended reals. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.KernelIdeal.RS.run_main (F := Ideal) m ρ)

/-- The reference terminates, its arguments unchanged and every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- A device's partial product is the block of the whole that its half of the mesh names. -/
theorem block_apply (X : (⟨3, ![2, 4096, 4096]⟩ : Shape).Idx → EReal) (c : Dev Cert.KernelIdeal.nD) (r l : Fin 4096) :
    Layout.blockN ⟨3, ![1, 4096, 4096]⟩ ⟨3, ![2, 4096, 4096]⟩ (Layout.meshBlock [2, 2, 2] ![[0], [], []] c) X (by decide) (ix3 0 r l)
      = X (ix3 (Cert.KernelIdeal.RS.half c) r l) := by
  refine congrArg X (funext fun a => Fin.ext ?_)
  fin_cases a
  · show Layout.meshLin [2, 2, 2] c.val [0] * 1 + 0 = c.val / 4
    revert c; decide
  · show 0 * 4096 + r.val = r.val; omega
  · show 0 * 4096 + l.val = l.val; omega

/-- Over the extended reals every device's result is the reference's of the whole arrays. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.2.2.trans ?_, (h.1 c).1, (h.1 c).2.1, (h.1 c).2.2.1⟩)
    (Cert.KernelIdeal.RS.run_main (F := Ideal) m ρ)
  exact Cert.KernelIdeal.RS.out₁_eq (fun d => ⟨fun r l => (congrFun (hagree d).1 (ix3 0 r l)).trans (block_apply _ d r l),
    (hagree d).2.1, (hagree d).2.2⟩) c

theorem claim : Cert.Claim :=
  ⟨Cert.Kernel.Gen.facts, Cert.KernelIdeal.Gen.facts, Cert.ReferenceIdeal.Gen.facts,
    frame_kernel, frame_ideal, frame_reference, trivial, algebraic⟩

end Cert.Proof

end
